-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "knot0" .f32 0xC00CCCCD#32 ((-11 / 5 : ℝ) : EReal)
  ∧ IdealRules.named_const.Statement Cert.KernelIdeal.κ "knot1" .f32 0xBFE66666#32 ((-9 / 5 : ℝ) : EReal)
  ∧ IdealRules.named_const.Statement Cert.KernelIdeal.κ "knot2" .f32 0xBFB33333#32 ((-7 / 5 : ℝ) : EReal)
  ∧ IdealRules.named_const.Statement Cert.KernelIdeal.κ "knot4" .f32 0xBF19999A#32 ((-3 / 5 : ℝ) : EReal)
  ∧ IdealRules.named_const.Statement Cert.KernelIdeal.κ "knot5" .f32 0xBE4CCCCD#32 ((-1 / 5 : ℝ) : EReal)
  ∧ IdealRules.named_const.Statement Cert.KernelIdeal.κ "knot6" .f32 0x3E4CCCCD#32 ((1 / 5 : ℝ) : EReal)
  ∧ IdealRules.named_const.Statement Cert.KernelIdeal.κ "knot7" .f32 0x3F19999A#32 ((3 / 5 : ℝ) : EReal)
  ∧ IdealRules.named_const.Statement Cert.KernelIdeal.κ "knot9" .f32 0x3FB33333#32 ((7 / 5 : ℝ) : EReal)
  ∧ IdealRules.named_const.Statement Cert.KernelIdeal.κ "knot10" .f32 0x3FE66666#32 ((9 / 5 : ℝ) : EReal)
  ∧ IdealRules.named_const.Statement Cert.KernelIdeal.κ "knot11" .f32 0x400CCCCD#32 ((11 / 5 : ℝ) : EReal)
  ∧ IdealRules.named_const.Statement Cert.KernelIdeal.κ "five_sixths" .f32 0x3F555555#32 ((5 / 6 : ℝ) : EReal)
  ∧ IdealRules.bf16_pair.PackStatement Cert.KernelIdeal.S64x128x128
  ∧ IdealRules.bf16_pair.Statement Cert.KernelIdeal.S64x256x128 Cert.KernelIdeal.S64x128x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v357) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x256x64 : Shape := ⟨3, ![2, 256, 64]⟩
abbrev S2x256x256 : Shape := ⟨3, ![2, 256, 256]⟩
abbrev S1x64 : Shape := ⟨2, ![1, 64]⟩
abbrev S1x64x8 : Shape := ⟨3, ![1, 64, 8]⟩
abbrev S64x64 : Shape := ⟨2, ![64, 64]⟩
abbrev S64x64x8 : Shape := ⟨3, ![64, 64, 8]⟩
abbrev S64x128 : Shape := ⟨2, ![64, 128]⟩
abbrev S64x128x8 : Shape := ⟨3, ![64, 128, 8]⟩
abbrev S_ : Shape := ⟨0, ![]⟩

class Facts : Prop where
  bcast_S_S2x256x64 : S_.BroadcastsInDim S2x256x64 (![] : Fin 0 → Fin S2x256x64.rank)
  reducesTo_S2x256x64_S_d0_1_2 : S2x256x64.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_
  bcast_S_S1x64x8 : S_.BroadcastsInDim S1x64x8 (![] : Fin 0 → Fin S1x64x8.rank)
  reducesTo_S1x64x8_S_d0_1_2 : S1x64x8.ReducesTo [0, 1, 2] S_
  bcast_S_S64x64 : S_.BroadcastsInDim S64x64 (![] : Fin 0 → Fin S64x64.rank)
  reducesTo_S64x64_S_d0_1 : S64x64.ReducesTo [0, 1] S_
  bcast_S_S64x64x8 : S_.BroadcastsInDim S64x64x8 (![] : Fin 0 → Fin S64x64x8.rank)
  reducesTo_S64x64x8_S_d0_1_2 : S64x64x8.ReducesTo [0, 1, 2] S_
  bcast_S_S64x128 : S_.BroadcastsInDim S64x128 (![] : Fin 0 → Fin S64x128.rank)
  reducesTo_S64x128_S_d0_1 : S64x128.ReducesTo [0, 1] S_
  bcast_S_S64x128x8 : S_.BroadcastsInDim S64x128x8 (![] : Fin 0 → Fin S64x128x8.rank)
  reducesTo_S64x128x8_S_d0_1_2 : S64x128x8.ReducesTo [0, 1, 2] S_

variable [Facts]

def fn_part2 {F : FTy → Type} [FloatOps F] (main_arg8 : FVec F S64x128 .f32) (main_arg9 : FVec F S64x128x8 .f32) (main_arg10 : FVec F S64x128 .f32) (main_v29 : IVec S_ 1) (main_v32 : IVec S64x64 1) (main_c_12 : IVec S_ 1) : IVec S_ 1 :=
  let main_v33 : IVec S_ 1 := (fun x v => Host.reduce IntOp.andi x v reducesTo_S64x64_S_d0_1 h_S_) main_v32 main_c_12
  let main_v34 : IVec S_ 1 := andi main_v29 main_v33
  let main_v35 : FVec F S64x128 .f32 := Host.absf main_arg8
  let main_cst_13 : FVec F S_ .f32 := constant S_ .f32 0x7F800000#32
  let main_v36 : FVec F S64x128 .f32 := broadcastInDim S64x128 ![] bcast_S_S64x128 main_cst_13
  let main_v37 : IVec S64x128 1 := cmpf .olt main_v35 main_v36
  let main_c_14 : IVec S_ 1 := constantI S_ 1 1#1
  let main_v38 : IVec S_ 1 := (fun x v => Host.reduce IntOp.andi x v reducesTo_S64x128_S_d0_1 h_S_) main_v37 main_c_14
  let main_v39 : IVec S_ 1 := andi main_v34 main_v38
  let main_v40 : FVec F S64x128x8 .f32 := Host.absf main_arg9
  let main_cst_15 : FVec F S_ .f32 := constant S_ .f32 0x7F800000#32
  let main_v41 : FVec F S64x128x8 .f32 := broadcastInDim S64x128x8 ![] bcast_S_S64x128x8 main_cst_15
  let main_v42 : IVec S64x128x8 1 := cmpf .olt main_v40 main_v41
  let main_c_16 : IVec S_ 1 := constantI S_ 1 1#1
  let main_v43 : IVec S_ 1 := (fun x v => Host.reduce IntOp.andi x v reducesTo_S64x128x8_S_d0_1_2 h_S_) main_v42 main_c_16
  let main_v44 : IVec S_ 1 := andi main_v39 main_v43
  let main_v45 : FVec F S64x128 .f32 := Host.absf main_arg10
  let main_cst_17 : FVec F S_ .f32 := constant S_ .f32 0x7F800000#32
  let main_v46 : FVec F S64x128 .f32 := broadcastInDim S64x128 ![] bcast_S_S64x128 main_cst_17
  let main_v47 : IVec S64x128 1 := cmpf .olt main_v45 main_v46
  let main_c_18 : IVec S_ 1 := constantI S_ 1 1#1
  let main_v48 : IVec S_ 1 := (fun x v => Host.reduce IntOp.andi x v reducesTo_S64x128_S_d0_1 h_S_) main_v47 main_c_18
  let main_v49 : IVec S_ 1 := andi main_v44 main_v48
  main_v49

def fn_part1 {F : FTy → Type} [FloatOps F] (main_arg5 : FVec F S64x64 .f32) (main_arg6 : FVec F S64x64x8 .f32) (main_arg7 : FVec F S64x64 .f32) (main_arg8 : FVec F S64x128 .f32) (main_arg9 : FVec F S64x128x8 .f32) (main_arg10 : FVec F S64x128 .f32) (main_v14 : IVec S_ 1) (main_v15 : FVec F S1x64 .f32) (main_cst_5 : FVec F S_ .f32) : IVec S_ 1 :=
  let main_v16 : FVec F S1x64 .f32 := broadcastInDim S1x64 ![] bcast_S_S1x64 main_cst_5
  let main_v17 : IVec S1x64 1 := cmpf .olt main_v15 main_v16
  let main_c_6 : IVec S_ 1 := constantI S_ 1 1#1
  let main_v18 : IVec S_ 1 := (fun x v => Host.reduce IntOp.andi x v reducesTo_S1x64_S_d0_1 h_S_) main_v17 main_c_6
  let main_v19 : IVec S_ 1 := andi main_v14 main_v18
  let main_v20 : FVec F S64x64 .f32 := Host.absf main_arg5
  let main_cst_7 : FVec F S_ .f32 := constant S_ .f32 0x7F800000#32
  let main_v21 : FVec F S64x64 .f32 := broadcastInDim S64x64 ![] bcast_S_S64x64 main_cst_7
  let main_v22 : IVec S64x64 1 := cmpf .olt main_v20 main_v21
  let main_c_8 : IVec S_ 1 := constantI S_ 1 1#1
  let main_v23 : IVec S_ 1 := (fun x v => Host.reduce IntOp.andi x v reducesTo_S64x64_S_d0_1 h_S_) main_v22 main_c_8
  let main_v24 : IVec S_ 1 := andi main_v19 main_v23
  let main_v25 : FVec F S64x64x8 .f32 := Host.absf main_arg6
  let main_cst_9 : FVec F S_ .f32 := constant S_ .f32 0x7F800000#32
  let main_v26 : FVec F S64x64x8 .f32 := broadcastInDim S64x64x8 ![] bcast_S_S64x64x8 main_cst_9
  let main_v27 : IVec S64x64x8 1 := cmpf .olt main_v25 main_v26
  let main_c_10 : IVec S_ 1 := constantI S_ 1 1#1
  let main_v28 : IVec S_ 1 := (fun x v => Host.reduce IntOp.andi x v reducesTo_S64x64x8_S_d0_1_2 h_S_) main_v27 main_c_10
  let main_v29 : IVec S_ 1 := andi main_v24 main_v28
  let main_v30 : FVec F S64x64 .f32 := Host.absf main_arg7
  let main_cst_11 : FVec F S_ .f32 := constant S_ .f32 0x7F800000#32
  let main_v31 : FVec F S64x64 .f32 := broadcastInDim S64x64 ![] bcast_S_S64x64 main_cst_11
  let main_v32 : IVec S64x64 1 := cmpf .olt main_v30 main_v31
  let main_c_12 : IVec S_ 1 := constantI S_ 1 1#1
  fn_part2 (F := F) main_arg8 main_arg9 main_arg10 main_v29 main_v32 main_c_12

def fn {F : FTy → Type} [FloatOps F] (main_arg0 : FVec F S2x256x64 .f32) (main_arg1 : IVec S2x256x256 32) (main_arg2 : FVec F S1x64 .f32) (main_arg3 : FVec F S1x64x8 .f32) (main_arg4 : FVec F S1x64 .f32) (main_arg5 : FVec F S64x64 .f32) (main_arg6 : FVec F S64x64x8 .f32) (main_arg7 : FVec F S64x64 .f32) (main_arg8 : FVec F S64x128 .f32) (main_arg9 : FVec F S64x128x8 .f32) (main_arg10 : FVec F S64x128 .f32) : IVec S_ 1 :=
  let main_v0 : FVec F S2x256x64 .f32 := Host.absf main_arg0
  let main_cst : FVec F S_ .f32 := constant S_ .f32 0x7F800000#32
  let main_v1 : FVec F S2x256x64 .f32 := broadcastInDim S2x256x64 ![] bcast_S_S2x256x64 main_cst
  let main_v2 : IVec S2x256x64 1 := cmpf .olt main_v0 main_v1
  let main_c : IVec S_ 1 := constantI S_ 1 1#1
  let main_v3 : IVec S_ 1 := (fun x v => Host.reduce IntOp.andi x v reducesTo_S2x256x64_S_d0_1_2 h_S_) main_v2 main_c
  let main_c_0 : IVec S_ 1 := constantI S_ 1 1#1
  let main_v4 : IVec S_ 1 := andi main_c_0 main_v3
  let main_v5 : FVec F S1x64 .f32 := Host.absf main_arg2
  let main_cst_1 : FVec F S_ .f32 := constant S_ .f32 0x7F800000#32
  let main_v6 : FVec F S1x64 .f32 := broadcastInDim S1x64 ![] bcast_S_S1x64 main_cst_1
  let main_v7 : IVec S1x64 1 := cmpf .olt main_v5 main_v6
  let main_c_2 : IVec S_ 1 := constantI S_ 1 1#1
  let main_v8 : IVec S_ 1 := (fun x v => Host.reduce IntOp.andi x v reducesTo_S1x64_S_d0_1 h_S_) main_v7 main_c_2
  let main_v9 : IVec S_ 1 := andi main_v4 main_v8
  let main_v10 : FVec F S1x64x8 .f32 := Host.absf main_arg3
  let main_cst_3 : FVec F S_ .f32 := constant S_ .f32 0x7F800000#32
  let main_v11 : FVec F S1x64x8 .f32 := broadcastInDim S1x64x8 ![] bcast_S_S1x64x8 main_cst_3
  let main_v12 : IVec S1x64x8 1 := cmpf .olt main_v10 main_v11
  let main_c_4 : IVec S_ 1 := constantI S_ 1 1#1
  let main_v13 : IVec S_ 1 := (fun x v => Host.reduce IntOp.andi x v reducesTo_S1x64x8_S_d0_1_2 h_S_) main_v12 main_c_4
  let main_v14 : IVec S_ 1 := andi main_v9 main_v13
  let main_v15 : FVec F S1x64 .f32 := Host.absf main_arg4
  let main_cst_5 : FVec F S_ .f32 := constant S_ .f32 0x7F800000#32
  fn_part1 (F := F) main_arg5 main_arg6 main_arg7 main_arg8 main_arg9 main_arg10 main_v14 main_v15 main_cst_5
-- ==== Kernel.lean ====
abbrev S2x256x64 : Shape := ⟨3, ![2, 256, 64]⟩
abbrev S2x256x256 : Shape := ⟨3, ![2, 256, 256]⟩
abbrev S1x64 : Shape := ⟨2, ![1, 64]⟩
abbrev S1x64x8 : Shape := ⟨3, ![1, 64, 8]⟩
abbrev S64x64 : Shape := ⟨2, ![64, 64]⟩
abbrev S64x64x8 : Shape := ⟨3, ![64, 64, 8]⟩
abbrev S64x128 : Shape := ⟨2, ![64, 128]⟩
abbrev S64x128x8 : Shape := ⟨3, ![64, 128, 8]⟩
abbrev S11x8x4 : Shape := ⟨3, ![11, 8, 4]⟩
abbrev S1x2x1x256x1x64 : Shape := ⟨6, ![1, 2, 1, 256, 1, 64]⟩
abbrev S1x2x1x256x2x64 : Shape := ⟨6, ![1, 2, 1, 256, 2, 64]⟩
abbrev S2x256x128 : Shape := ⟨3, ![2, 256, 128]⟩
abbrev S2x128x64 : Shape := ⟨3, ![2, 128, 64]⟩
abbrev S2x128x128 : Shape := ⟨3, ![2, 128, 128]⟩
abbrev S1x64x1 : Shape := ⟨3, ![1, 64, 1]⟩
abbrev S64x8 : Shape := ⟨2, ![64, 8]⟩
abbrev S1x64x1x8 : Shape := ⟨4, ![1, 64, 1, 8]⟩
abbrev S2x64x1x8 : Shape := ⟨4, ![2, 64, 1, 8]⟩
abbrev S128x8 : Shape := ⟨2, ![128, 8]⟩
abbrev S1x1x1x64 : Shape := ⟨4, ![1, 1, 1, 64]⟩
abbrev S1x1x2x64 : Shape := ⟨4, ![1, 1, 2, 64]⟩
abbrev S1x128 : Shape := ⟨2, ![1, 128]⟩
abbrev S_ : Shape := ⟨0, ![]⟩
abbrev S4x11x8 : Shape := ⟨3, ![4, 11, 8]⟩
abbrev S4x11x1x8 : Shape := ⟨4, ![4, 11, 1, 8]⟩
abbrev S1x1x128x8 : Shape := ⟨4, ![1, 1, 128, 8]⟩
abbrev S4x11x128x8 : Shape := ⟨4, ![4, 11, 128, 8]⟩
abbrev S4x11x128 : Shape := ⟨3, ![4, 11, 128]⟩
abbrev S4x13x128 : Shape := ⟨3, ![4, 13, 128]⟩
abbrev S1x13x128 : Shape := ⟨3, ![1, 13, 128]⟩
abbrev S13x128 : Shape := ⟨2, ![13, 128]⟩
abbrev S52x128 : Shape := ⟨2, ![52, 128]⟩
abbrev S64x64x1 : Shape := ⟨3, ![64, 64, 1]⟩
abbrev S8x64x64 : Shape := ⟨3, ![8, 64, 64]⟩
abbrev S64x128x1 : Shape := ⟨3, ![64, 128, 1]⟩
abbrev S8x128x64 : Shape := ⟨3, ![8, 128, 64]⟩
abbrev S128x64 : Shape := ⟨2, ![128, 64]⟩
abbrev S1x256x64 : Shape := ⟨3, ![1, 256, 64]⟩
abbrev S1x256x128 : Shape := ⟨3, ![1, 256, 128]⟩
abbrev S1x128x128 : Shape := ⟨3, ![1, 128, 128]⟩
abbrev S1x64x256 : Shape := ⟨3, ![1, 64, 256]⟩
abbrev S1x64x64 : Shape := ⟨3, ![1, 64, 64]⟩
abbrev S256x64 : Shape := ⟨2, ![256, 64]⟩
abbrev S128x128 : Shape := ⟨2, ![128, 128]⟩
abbrev S128 : Shape := ⟨1, ![128]⟩
abbrev S1x1x128 : Shape := ⟨3, ![1, 1, 128]⟩
abbrev S1x64x128 : Shape := ⟨3, ![1, 64, 128]⟩
abbrev S64x1x128 : Shape := ⟨3, ![64, 1, 128]⟩
abbrev S64x128x128 : Shape := ⟨3, ![64, 128, 128]⟩
abbrev S64x256 : Shape := ⟨2, ![64, 256]⟩
abbrev S64 : Shape := ⟨1, ![64]⟩
abbrev S64x1 : Shape := ⟨2, ![64, 1]⟩
abbrev S1x128x64 : Shape := ⟨3, ![1, 128, 64]⟩

abbrev nBuf : Space → Nat
  | .hbm => 71
  | .vmem => 18
  | .smem => 0
  | _ => 0

abbrev bufTy : (tb : Table) → Fin (tcTables nBuf tb) → BufTy
  | .hbm, ⟨0, _⟩ => ⟨S2x256x64, .f32⟩
  | .hbm, ⟨1, _⟩ => ⟨S2x256x256, .i32⟩
  | .hbm, ⟨2, _⟩ => ⟨S1x64, .f32⟩
  | .hbm, ⟨3, _⟩ => ⟨S1x64x8, .f32⟩
  | .hbm, ⟨4, _⟩ => ⟨S1x64, .f32⟩
  | .hbm, ⟨5, _⟩ => ⟨S64x64, .f32⟩
  | .hbm, ⟨6, _⟩ => ⟨S64x64x8, .f32⟩
  | .hbm, ⟨7, _⟩ => ⟨S64x64, .f32⟩
  | .hbm, ⟨8, _⟩ => ⟨S64x128, .f32⟩
  | .hbm, ⟨9, _⟩ => ⟨S64x128x8, .f32⟩
  | .hbm, ⟨10, _⟩ => ⟨S64x128, .f32⟩
  | .hbm, ⟨11, _⟩ => ⟨S11x8x4, .f32⟩
  | .hbm, ⟨12, _⟩ => ⟨S1x2x1x256x1x64, .f32⟩
  | .hbm, ⟨13, _⟩ => ⟨S1x2x1x256x2x64, .f32⟩
  | .hbm, ⟨14, _⟩ => ⟨S2x256x128, .f32⟩
  | .hbm, ⟨15, _⟩ => ⟨S2x128x64, .f32⟩
  | .hbm, ⟨16, _⟩ => ⟨S2x128x64, .f32⟩
  | .hbm, ⟨17, _⟩ => ⟨S2x128x128, .f32⟩
  | .hbm, ⟨18, _⟩ => ⟨S1x64x1, .f32⟩
  | .hbm, ⟨19, _⟩ => ⟨S1x64x8, .f32⟩
  | .hbm, ⟨20, _⟩ => ⟨S1x64x8, .f32⟩
  | .hbm, ⟨21, _⟩ => ⟨S64x8, .f32⟩
  | .hbm, ⟨22, _⟩ => ⟨S1x64x1x8, .f32⟩
  | .hbm, ⟨23, _⟩ => ⟨S2x64x1x8, .f32⟩
  | .hbm, ⟨24, _⟩ => ⟨S128x8, .f32⟩
  | .hbm, ⟨25, _⟩ => ⟨S1x1x1x64, .f32⟩
  | .hbm, ⟨26, _⟩ => ⟨S1x1x2x64, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S_, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S1x128, .f32⟩
  | .hbm, ⟨37, _⟩ => ⟨S_, .f32⟩
  | .hbm, ⟨38, _⟩ => ⟨S11x8x4, .f32⟩
  | .hbm, ⟨39, _⟩ => ⟨S11x8x4, .f32⟩
  | .hbm, ⟨40, _⟩ => ⟨S4x11x8, .f32⟩
  | .hbm, ⟨41, _⟩ => ⟨S4x11x1x8, .f32⟩
  | .hbm, ⟨42, _⟩ => ⟨S1x1x128x8, .f32⟩
  | .hbm, ⟨43, _⟩ => ⟨S4x11x128x8, .f32⟩
  | .hbm, ⟨44, _⟩ => ⟨S4x11x128x8, .f32⟩
  | .hbm, ⟨45, _⟩ => ⟨S4x11x128x8, .f32⟩
  | .hbm, ⟨46, _⟩ => ⟨S_, .f32⟩
  | .hbm, ⟨47, _⟩ => ⟨S4x11x128, .f32⟩
  | .hbm, ⟨48, _⟩ => ⟨S_, .i32⟩
  | .hbm, ⟨49, _⟩ => ⟨S_, .f32⟩
  | .hbm, ⟨50, _⟩ => ⟨S4x13x128, .f32⟩
  | .hbm, ⟨51, _⟩ => ⟨S1x13x128, .f32⟩
  | .hbm, ⟨52, _⟩ => ⟨S13x128, .f32⟩
  | .hbm, ⟨53, _⟩ => ⟨S1x13x128, .f32⟩
  | .hbm, ⟨54, _⟩ => ⟨S13x128, .f32⟩
  | .hbm, ⟨55, _⟩ => ⟨S1x13x128, .f32⟩
  | .hbm, ⟨56, _⟩ => ⟨S13x128, .f32⟩
  | .hbm, ⟨57, _⟩ => ⟨S1x13x128, .f32⟩
  | .hbm, ⟨58, _⟩ => ⟨S13x128, .f32⟩
  | .hbm, ⟨59, _⟩ => ⟨S52x128, .f32⟩
  | .hbm, ⟨60, _⟩ => ⟨S64x64x1, .f32⟩
  | .hbm, ⟨61, _⟩ => ⟨S64x64x8, .f32⟩
  | .hbm, ⟨62, _⟩ => ⟨S64x64x8, .f32⟩
  | .hbm, ⟨63, _⟩ => ⟨S8x64x64, .f32⟩
  | .hbm, ⟨64, _⟩ => ⟨S64x128x1, .f32⟩
  | .hbm, ⟨65, _⟩ => ⟨S64x128x8, .f32⟩
  | .hbm, ⟨66, _⟩ => ⟨S64x128x8, .f32⟩
  | .hbm, ⟨67, _⟩ => ⟨S8x128x64, .f32⟩
  | .hbm, ⟨68, _⟩ => ⟨S64x64, .f32⟩
  | .hbm, ⟨69, _⟩ => ⟨S128x64, .f32⟩
  | .hbm, ⟨70, _⟩ => ⟨S2x256x64, .f32⟩
  | .local _ .vmem, ⟨0, _⟩ => ⟨S1x256x64, .f32⟩
  | .local _ .vmem, ⟨1, _⟩ => ⟨S1x256x64, .f32⟩
  | .local _ .vmem, ⟨2, _⟩ => ⟨S1x256x128, .f32⟩
  | .local _ .vmem, ⟨3, _⟩ => ⟨S1x256x128, .f32⟩
  | .local _ .vmem, ⟨4, _⟩ => ⟨S1x128x128, .f32⟩
  | .local _ .vmem, ⟨5, _⟩ => ⟨S1x128x128, .f32⟩
  | .local _ .vmem, ⟨6, _⟩ => ⟨S1x64x256, .i32⟩
  | .local _ .vmem, ⟨7, _⟩ => ⟨S1x64x256, .i32⟩
  | .local _ .vmem, ⟨8, _⟩ => ⟨S1x128, .f32⟩
  | .local _ .vmem, ⟨9, _⟩ => ⟨S1x128, .f32⟩
  | .local _ .vmem, ⟨10, _⟩ => ⟨S52x128, .f32⟩
  | .local _ .vmem, ⟨11, _⟩ => ⟨S64x64, .f32⟩
  | .local _ .vmem, ⟨12, _⟩ => ⟨S8x64x64, .f32⟩
  | .local _ .vmem, ⟨13, _⟩ => ⟨S128x64, .f32⟩
  | .local _ .vmem, ⟨14, _⟩ => ⟨S8x128x64, .f32⟩
  | .local _ .vmem, ⟨15, _⟩ => ⟨S1x64x64, .f32⟩
  | .local _ .vmem, ⟨16, _⟩ => ⟨S1x64x64, .f32⟩
  | .local _ .vmem, ⟨17, _⟩ => ⟨S256x64, .f32⟩
  | _, _ => ⟨S2x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_c : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [BitOps F]

abbrev grid0 : Pipeline.Grid := ⟨2, ![2, 4], ![false, false]⟩

def k0_off1 (i : grid0.Coords) : Fin 3 → Nat :=
  let c0_8 : Index := 0#32
  let arg1 : BitVec 32 := BitVec.ofNat 32 (i 1).val
  let c64_i32 : BitVec 32 := 64#32
  let v11 : BitVec 32 := Scalar.muli arg1 c64_i32
  let c0_i32_7 : BitVec 32 := 0#32
  let v12 : BitVec 32 := Scalar.addi v11 c0_i32_7
  let v13 : Index := Scalar.indexCast v12
  let c0_9 : Index := 0#32
  ![0, v13.toNat, 0]
def k0_off2 (i : grid0.Coords) : Fin 3 → Nat :=
  let c0_94 : Index := 0#32
  let arg1 : BitVec 32 := BitVec.ofNat 32 (i 1).val
  let c64_i32_93 : BitVec 32 := 64#32
  let v414 : BitVec 32 := Scalar.muli arg1 c64_i32_93
  let v415 : Index := Scalar.indexCast v414
  let c0_95 : Index := 0#32
  ![0, v415.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S52x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
abbrev S64x256x128 : Shape := ⟨3, ![64, 256, 128]⟩
variable {F : FTy → Type} [FloatOps F] [Named F]
def κ : String → Option EReal := fun
  | "five_sixths" => some ((5 / 6 : ℝ) : EReal)
  | "knot0" => some ((-11 / 5 : ℝ) : EReal)
  | "knot1" => some ((-9 / 5 : ℝ) : EReal)
  | "knot10" => some ((9 / 5 : ℝ) : EReal)
  | "knot11" => some ((11 / 5 : ℝ) : EReal)
  | "knot2" => some ((-7 / 5 : ℝ) : EReal)
  | "knot4" => some ((-3 / 5 : ℝ) : EReal)
  | "knot5" => some ((-1 / 5 : ℝ) : EReal)
  | "knot6" => some ((1 / 5 : ℝ) : EReal)
  | "knot7" => some ((3 / 5 : ℝ) : EReal)
  | "knot9" => some ((7 / 5 : ℝ) : EReal)
  | "neg_log2e" => some ((-((Real.log 2)⁻¹) : ℝ) : EReal)
  | _ => none
-- ==== ReferenceIdeal.lean ====
abbrev S2x256x64 : Shape := ⟨3, ![2, 256, 64]⟩
abbrev S2x256x256 : Shape := ⟨3, ![2, 256, 256]⟩
abbrev S1x64 : Shape := ⟨2, ![1, 64]⟩
abbrev S1x64x8 : Shape := ⟨3, ![1, 64, 8]⟩
abbrev S64x64 : Shape := ⟨2, ![64, 64]⟩
abbrev S64x64x8 : Shape := ⟨3, ![64, 64, 8]⟩
abbrev S64x128 : Shape := ⟨2, ![64, 128]⟩
abbrev S64x128x8 : Shape := ⟨3, ![64, 128, 8]⟩
abbrev S2x256x1x64 : Shape := ⟨4, ![2, 256, 1, 64]⟩
abbrev S2x1x256x64 : Shape := ⟨4, ![2, 1, 256, 64]⟩
abbrev S2x256x256x64 : Shape := ⟨4, ![2, 256, 256, 64]⟩
abbrev S12 : Shape := ⟨1, ![12]⟩
abbrev S_ : Shape := ⟨0, ![]⟩
abbrev S64x12 : Shape := ⟨2, ![64, 12]⟩
abbrev S2x256x256x64x1 : Shape := ⟨5, ![2, 256, 256, 64, 1]⟩
abbrev S64x11 : Shape := ⟨2, ![64, 11]⟩
abbrev S1x1x1x64x11 : Shape := ⟨5, ![1, 1, 1, 64, 11]⟩
abbrev S2x256x256x64x11 : Shape := ⟨5, ![2, 256, 256, 64, 11]⟩
abbrev S64x10 : Shape := ⟨2, ![64, 10]⟩
abbrev S1x1x1x64x10 : Shape := ⟨5, ![1, 1, 1, 64, 10]⟩
abbrev S2x256x256x64x10 : Shape := ⟨5, ![2, 256, 256, 64, 10]⟩
abbrev S64x9 : Shape := ⟨2, ![64, 9]⟩
abbrev S1x1x1x64x9 : Shape := ⟨5, ![1, 1, 1, 64, 9]⟩
abbrev S2x256x256x64x9 : Shape := ⟨5, ![2, 256, 256, 64, 9]⟩
abbrev S64x8 : Shape := ⟨2, ![64, 8]⟩
abbrev S1x1x1x64x8 : Shape := ⟨5, ![1, 1, 1, 64, 8]⟩
abbrev S2x256x256x64x8 : Shape := ⟨5, ![2, 256, 256, 64, 8]⟩
abbrev S1x64x1 : Shape := ⟨3, ![1, 64, 1]⟩
abbrev S64x1 : Shape := ⟨2, ![64, 1]⟩
abbrev S2x256x256x1 : Shape := ⟨4, ![2, 256, 256, 1]⟩
abbrev S2x256 : Shape := ⟨2, ![2, 256]⟩
abbrev S2x256x1 : Shape := ⟨3, ![2, 256, 1]⟩
abbrev S2x256x64x1 : Shape := ⟨4, ![2, 256, 64, 1]⟩
abbrev S1x1x64x11 : Shape := ⟨4, ![1, 1, 64, 11]⟩
abbrev S2x256x64x11 : Shape := ⟨4, ![2, 256, 64, 11]⟩
abbrev S1x1x64x10 : Shape := ⟨4, ![1, 1, 64, 10]⟩
abbrev S2x256x64x10 : Shape := ⟨4, ![2, 256, 64, 10]⟩
abbrev S1x1x64x9 : Shape := ⟨4, ![1, 1, 64, 9]⟩
abbrev S2x256x64x9 : Shape := ⟨4, ![2, 256, 64, 9]⟩
abbrev S1x1x64x8 : Shape := ⟨4, ![1, 1, 64, 8]⟩
abbrev S2x256x64x8 : Shape := ⟨4, ![2, 256, 64, 8]⟩
abbrev S64x64x1 : Shape := ⟨3, ![64, 64, 1]⟩
abbrev S2x256x128 : Shape := ⟨3, ![2, 256, 128]⟩
abbrev S128x12 : Shape := ⟨2, ![128, 12]⟩
abbrev S2x256x128x1 : Shape := ⟨4, ![2, 256, 128, 1]⟩
abbrev S128x11 : Shape := ⟨2, ![128, 11]⟩
abbrev S1x1x128x11 : Shape := ⟨4, ![1, 1, 128, 11]⟩
abbrev S2x256x128x11 : Shape := ⟨4, ![2, 256, 128, 11]⟩
abbrev S128x10 : Shape := ⟨2, ![128, 10]⟩
abbrev S1x1x128x10 : Shape := ⟨4, ![1, 1, 128, 10]⟩
abbrev S2x256x128x10 : Shape := ⟨4, ![2, 256, 128, 10]⟩
abbrev S128x9 : Shape := ⟨2, ![128, 9]⟩
abbrev S1x1x128x9 : Shape := ⟨4, ![1, 1, 128, 9]⟩
abbrev S2x256x128x9 : Shape := ⟨4, ![2, 256, 128, 9]⟩
abbrev S128x8 : Shape := ⟨2, ![128, 8]⟩
abbrev S1x1x128x8 : Shape := ⟨4, ![1, 1, 128, 8]⟩
abbrev S2x256x128x8 : Shape := ⟨4, ![2, 256, 128, 8]⟩
abbrev S64x128x1 : Shape := ⟨3, ![64, 128, 1]⟩
abbrev S128x64 : Shape := ⟨2, ![128, 64]⟩

abbrev nBuf : Space → Nat
  | .hbm => 411
  | .vmem => 0
  | .smem => 0
  | _ => 0

abbrev hbmTy0_0 (i : Nat) : BufTy := match i % 128 with
  | 0 => ⟨S2x256x64, .f32⟩
  | 1 => ⟨S2x256x256, .i32⟩
  | 2 => ⟨S1x64, .f32⟩
  | 3 => ⟨S1x64x8, .f32⟩
  | 4 => ⟨S1x64, .f32⟩
  | 5 => ⟨S64x64, .f32⟩
  | 6 => ⟨S64x64x8, .f32⟩
  | 7 => ⟨S64x64, .f32⟩
  | 8 => ⟨S64x128, .f32⟩
  | 9 => ⟨S64x128x8, .f32⟩
  | 10 => ⟨S64x128, .f32⟩
  | 11 => ⟨S2x256x1x64, .f32⟩
  | 12 => ⟨S2x1x256x64, .f32⟩
  | 13 => ⟨S2x256x256x64, .f32⟩
  | 14 => ⟨S2x256x256x64, .f32⟩
  | 15 => ⟨S2x256x256x64, .f32⟩
  | 16 => ⟨S12, .f32⟩
  | 17 => ⟨S_, .f32⟩
  | 18 => ⟨S12, .f32⟩
  | 19 => ⟨S12, .f32⟩
  | 20 => ⟨S_, .f32⟩
  | 21 => ⟨S12, .f32⟩
  | 22 => ⟨S12, .f32⟩
  | 23 => ⟨S_, .f32⟩
  | 24 => ⟨S12, .f32⟩
  | 25 => ⟨S12, .f32⟩
  | 26 => ⟨S_, .f32⟩
  | 27 => ⟨S12, .f32⟩
  | 28 => ⟨S12, .f32⟩
  | 29 => ⟨S64x12, .f32⟩
  | 30 => ⟨S2x256x256x64x1, .f32⟩
  | 31 => ⟨S64x11, .f32⟩
  | 32 => ⟨S1x1x1x64x11, .f32⟩
  | 33 => ⟨S2x256x256x64x11, .f32⟩
  | 34 => ⟨S2x256x256x64x11, .f32⟩
  | 35 => ⟨S2x256x256x64x11, .i1⟩
  | 36 => ⟨S64x11, .f32⟩
  | 37 => ⟨S1x1x1x64x11, .f32⟩
  | 38 => ⟨S2x256x256x64x11, .f32⟩
  | 39 => ⟨S2x256x256x64x11, .f32⟩
  | 40 => ⟨S2x256x256x64x11, .i1⟩
  | 41 => ⟨S2x256x256x64x11, .i1⟩
  | 42 => ⟨S2x256x256x64x11, .f32⟩
  | 43 => ⟨S64x10, .f32⟩
  | 44 => ⟨S1x1x1x64x10, .f32⟩
  | 45 => ⟨S2x256x256x64x10, .f32⟩
  | 46 => ⟨S2x256x256x64x10, .f32⟩
  | 47 => ⟨S2x256x256x64x10, .f32⟩
  | 48 => ⟨S64x10, .f32⟩
  | 49 => ⟨S64x10, .f32⟩
  | 50 => ⟨S64x10, .f32⟩
  | 51 => ⟨S1x1x1x64x10, .f32⟩
  | 52 => ⟨S2x256x256x64x10, .f32⟩
  | 53 => ⟨S2x256x256x64x10, .f32⟩
  | 54 => ⟨S2x256x256x64x10, .f32⟩
  | 55 => ⟨S2x256x256x64x10, .f32⟩
  | 56 => ⟨S64x10, .f32⟩
  | 57 => ⟨S1x1x1x64x10, .f32⟩
  | 58 => ⟨S2x256x256x64x10, .f32⟩
  | 59 => ⟨S2x256x256x64x10, .f32⟩
  | 60 => ⟨S2x256x256x64x10, .f32⟩
  | 61 => ⟨S64x10, .f32⟩
  | 62 => ⟨S64x10, .f32⟩
  | 63 => ⟨S64x10, .f32⟩
  | 64 => ⟨S1x1x1x64x10, .f32⟩
  | 65 => ⟨S2x256x256x64x10, .f32⟩
  | 66 => ⟨S2x256x256x64x10, .f32⟩
  | 67 => ⟨S2x256x256x64x10, .f32⟩
  | 68 => ⟨S2x256x256x64x10, .f32⟩
  | 69 => ⟨S2x256x256x64x10, .f32⟩
  | 70 => ⟨S64x9, .f32⟩
  | 71 => ⟨S1x1x1x64x9, .f32⟩
  | 72 => ⟨S2x256x256x64x9, .f32⟩
  | 73 => ⟨S2x256x256x64x9, .f32⟩
  | 74 => ⟨S2x256x256x64x9, .f32⟩
  | 75 => ⟨S64x9, .f32⟩
  | 76 => ⟨S64x9, .f32⟩
  | 77 => ⟨S64x9, .f32⟩
  | 78 => ⟨S1x1x1x64x9, .f32⟩
  | 79 => ⟨S2x256x256x64x9, .f32⟩
  | 80 => ⟨S2x256x256x64x9, .f32⟩
  | 81 => ⟨S2x256x256x64x9, .f32⟩
  | 82 => ⟨S2x256x256x64x9, .f32⟩
  | 83 => ⟨S64x9, .f32⟩
  | 84 => ⟨S1x1x1x64x9, .f32⟩
  | 85 => ⟨S2x256x256x64x9, .f32⟩
  | 86 => ⟨S2x256x256x64x9, .f32⟩
  | 87 => ⟨S2x256x256x64x9, .f32⟩
  | 88 => ⟨S64x9, .f32⟩
  | 89 => ⟨S64x9, .f32⟩
  | 90 => ⟨S64x9, .f32⟩
  | 91 => ⟨S1x1x1x64x9, .f32⟩
  | 92 => ⟨S2x256x256x64x9, .f32⟩
  | 93 => ⟨S2x256x256x64x9, .f32⟩
  | 94 => ⟨S2x256x256x64x9, .f32⟩
  | 95 => ⟨S2x256x256x64x9, .f32⟩
  | 96 => ⟨S2x256x256x64x9, .f32⟩
  | 97 => ⟨S64x8, .f32⟩
  | 98 => ⟨S1x1x1x64x8, .f32⟩
  | 99 => ⟨S2x256x256x64x8, .f32⟩
  | 100 => ⟨S2x256x256x64x8, .f32⟩
  | 101 => ⟨S2x256x256x64x8, .f32⟩
  | 102 => ⟨S64x8, .f32⟩
  | 103 => ⟨S64x8, .f32⟩
  | 104 => ⟨S64x8, .f32⟩
  | 105 => ⟨S1x1x1x64x8, .f32⟩
  | 106 => ⟨S2x256x256x64x8, .f32⟩
  | 107 => ⟨S2x256x256x64x8, .f32⟩
  | 108 => ⟨S2x256x256x64x8, .f32⟩
  | 109 => ⟨S2x256x256x64x8, .f32⟩
  | 110 => ⟨S64x8, .f32⟩
  | 111 => ⟨S1x1x1x64x8, .f32⟩
  | 112 => ⟨S2x256x256x64x8, .f32⟩
  | 113 => ⟨S2x256x256x64x8, .f32⟩
  | 114 => ⟨S2x256x256x64x8, .f32⟩
  | 115 => ⟨S64x8, .f32⟩
  | 116 => ⟨S64x8, .f32⟩
  | 117 => ⟨S64x8, .f32⟩
  | 118 => ⟨S1x1x1x64x8, .f32⟩
  | 119 => ⟨S2x256x256x64x8, .f32⟩
  | 120 => ⟨S2x256x256x64x8, .f32⟩
  | 121 => ⟨S2x256x256x64x8, .f32⟩
  | 122 => ⟨S2x256x256x64x8, .f32⟩
  | 123 => ⟨S2x256x256x64x8, .f32⟩
  | 124 => ⟨S1x64x1, .f32⟩
  | 125 => ⟨S1x64x8, .f32⟩
  | 126 => ⟨S1x64x8, .f32⟩
  | 127 => ⟨S2x256x256x64, .f32⟩
  | _ => ⟨S2x256x64, .f32⟩

abbrev hbmTy0_1 (i : Nat) : BufTy := match i % 128 with
  | 0 => ⟨S2x256x256x64, .f32⟩
  | 1 => ⟨S_, .f32⟩
  | 2 => ⟨S2x256x256x64, .f32⟩
  | 3 => ⟨S2x256x256x64, .f32⟩
  | 4 => ⟨S_, .f32⟩
  | 5 => ⟨S2x256x256x64, .f32⟩
  | 6 => ⟨S2x256x256x64, .f32⟩
  | 7 => ⟨S2x256x256x64, .f32⟩
  | 8 => ⟨S64x1, .f32⟩
  | 9 => ⟨S2x256x256x1, .f32⟩
  | 10 => ⟨S2x256x256x1, .f32⟩
  | 11 => ⟨S2x256x256x1, .f32⟩
  | 12 => ⟨S2x256x256, .f32⟩
  | 13 => ⟨S_, .i32⟩
  | 14 => ⟨S2x256x256, .i32⟩
  | 15 => ⟨S2x256x256, .i1⟩
  | 16 => ⟨S_, .f32⟩
  | 17 => ⟨S2x256x256, .f32⟩
  | 18 => ⟨S2x256x256, .f32⟩
  | 19 => ⟨S_, .f32⟩
  | 20 => ⟨S2x256, .f32⟩
  | 21 => ⟨S_, .f32⟩
  | 22 => ⟨S2x256, .f32⟩
  | 23 => ⟨S2x256, .f32⟩
  | 24 => ⟨S2x256x1, .f32⟩
  | 25 => ⟨S2x256x256, .f32⟩
  | 26 => ⟨S2x256x256, .f32⟩
  | 27 => ⟨S2x256x256, .f32⟩
  | 28 => ⟨S_, .f32⟩
  | 29 => ⟨S2x256, .f32⟩
  | 30 => ⟨S2x256x1, .f32⟩
  | 31 => ⟨S2x256x256, .f32⟩
  | 32 => ⟨S2x256x256, .f32⟩
  | 33 => ⟨S12, .f32⟩
  | 34 => ⟨S_, .f32⟩
  | 35 => ⟨S12, .f32⟩
  | 36 => ⟨S12, .f32⟩
  | 37 => ⟨S_, .f32⟩
  | 38 => ⟨S12, .f32⟩
  | 39 => ⟨S12, .f32⟩
  | 40 => ⟨S_, .f32⟩
  | 41 => ⟨S12, .f32⟩
  | 42 => ⟨S12, .f32⟩
  | 43 => ⟨S_, .f32⟩
  | 44 => ⟨S12, .f32⟩
  | 45 => ⟨S12, .f32⟩
  | 46 => ⟨S64x12, .f32⟩
  | 47 => ⟨S2x256x64x1, .f32⟩
  | 48 => ⟨S64x11, .f32⟩
  | 49 => ⟨S1x1x64x11, .f32⟩
  | 50 => ⟨S2x256x64x11, .f32⟩
  | 51 => ⟨S2x256x64x11, .f32⟩
  | 52 => ⟨S2x256x64x11, .i1⟩
  | 53 => ⟨S64x11, .f32⟩
  | 54 => ⟨S1x1x64x11, .f32⟩
  | 55 => ⟨S2x256x64x11, .f32⟩
  | 56 => ⟨S2x256x64x11, .f32⟩
  | 57 => ⟨S2x256x64x11, .i1⟩
  | 58 => ⟨S2x256x64x11, .i1⟩
  | 59 => ⟨S2x256x64x11, .f32⟩
  | 60 => ⟨S64x10, .f32⟩
  | 61 => ⟨S1x1x64x10, .f32⟩
  | 62 => ⟨S2x256x64x10, .f32⟩
  | 63 => ⟨S2x256x64x10, .f32⟩
  | 64 => ⟨S2x256x64x10, .f32⟩
  | 65 => ⟨S64x10, .f32⟩
  | 66 => ⟨S64x10, .f32⟩
  | 67 => ⟨S64x10, .f32⟩
  | 68 => ⟨S1x1x64x10, .f32⟩
  | 69 => ⟨S2x256x64x10, .f32⟩
  | 70 => ⟨S2x256x64x10, .f32⟩
  | 71 => ⟨S2x256x64x10, .f32⟩
  | 72 => ⟨S2x256x64x10, .f32⟩
  | 73 => ⟨S64x10, .f32⟩
  | 74 => ⟨S1x1x64x10, .f32⟩
  | 75 => ⟨S2x256x64x10, .f32⟩
  | 76 => ⟨S2x256x64x10, .f32⟩
  | 77 => ⟨S2x256x64x10, .f32⟩
  | 78 => ⟨S64x10, .f32⟩
  | 79 => ⟨S64x10, .f32⟩
  | 80 => ⟨S64x10, .f32⟩
  | 81 => ⟨S1x1x64x10, .f32⟩
  | 82 => ⟨S2x256x64x10, .f32⟩
  | 83 => ⟨S2x256x64x10, .f32⟩
  | 84 => ⟨S2x256x64x10, .f32⟩
  | 85 => ⟨S2x256x64x10, .f32⟩
  | 86 => ⟨S2x256x64x10, .f32⟩
  | 87 => ⟨S64x9, .f32⟩
  | 88 => ⟨S1x1x64x9, .f32⟩
  | 89 => ⟨S2x256x64x9, .f32⟩
  | 90 => ⟨S2x256x64x9, .f32⟩
  | 91 => ⟨S2x256x64x9, .f32⟩
  | 92 => ⟨S64x9, .f32⟩
  | 93 => ⟨S64x9, .f32⟩
  | 94 => ⟨S64x9, .f32⟩
  | 95 => ⟨S1x1x64x9, .f32⟩
  | 96 => ⟨S2x256x64x9, .f32⟩
  | 97 => ⟨S2x256x64x9, .f32⟩
  | 98 => ⟨S2x256x64x9, .f32⟩
  | 99 => ⟨S2x256x64x9, .f32⟩
  | 100 => ⟨S64x9, .f32⟩
  | 101 => ⟨S1x1x64x9, .f32⟩
  | 102 => ⟨S2x256x64x9, .f32⟩
  | 103 => ⟨S2x256x64x9, .f32⟩
  | 104 => ⟨S2x256x64x9, .f32⟩
  | 105 => ⟨S64x9, .f32⟩
  | 106 => ⟨S64x9, .f32⟩
  | 107 => ⟨S64x9, .f32⟩
  | 108 => ⟨S1x1x64x9, .f32⟩
  | 109 => ⟨S2x256x64x9, .f32⟩
  | 110 => ⟨S2x256x64x9, .f32⟩
  | 111 => ⟨S2x256x64x9, .f32⟩
  | 112 => ⟨S2x256x64x9, .f32⟩
  | 113 => ⟨S2x256x64x9, .f32⟩
  | 114 => ⟨S64x8, .f32⟩
  | 115 => ⟨S1x1x64x8, .f32⟩
  | 116 => ⟨S2x256x64x8, .f32⟩
  | 117 => ⟨S2x256x64x8, .f32⟩
  | 118 => ⟨S2x256x64x8, .f32⟩
  | 119 => ⟨S64x8, .f32⟩
  | 120 => ⟨S64x8, .f32⟩
  | 121 => ⟨S64x8, .f32⟩
  | 122 => ⟨S1x1x64x8, .f32⟩
  | 123 => ⟨S2x256x64x8, .f32⟩
  | 124 => ⟨S2x256x64x8, .f32⟩
  | 125 => ⟨S2x256x64x8, .f32⟩
  | 126 => ⟨S2x256x64x8, .f32⟩
  | 127 => ⟨S64x8, .f32⟩
  | _ => ⟨S2x256x64, .f32⟩

abbrev hbmTy0_2 (i : Nat) : BufTy := match i % 128 with
  | 0 => ⟨S1x1x64x8, .f32⟩
  | 1 => ⟨S2x256x64x8, .f32⟩
  | 2 => ⟨S2x256x64x8, .f32⟩
  | 3 => ⟨S2x256x64x8, .f32⟩
  | 4 => ⟨S64x8, .f32⟩
  | 5 => ⟨S64x8, .f32⟩
  | 6 => ⟨S64x8, .f32⟩
  | 7 => ⟨S1x1x64x8, .f32⟩
  | 8 => ⟨S2x256x64x8, .f32⟩
  | 9 => ⟨S2x256x64x8, .f32⟩
  | 10 => ⟨S2x256x64x8, .f32⟩
  | 11 => ⟨S2x256x64x8, .f32⟩
  | 12 => ⟨S2x256x64x8, .f32⟩
  | 13 => ⟨S64x64x1, .f32⟩
  | 14 => ⟨S64x64x8, .f32⟩
  | 15 => ⟨S64x64x8, .f32⟩
  | 16 => ⟨S2x256x64, .f32⟩
  | 17 => ⟨S2x256x64, .f32⟩
  | 18 => ⟨S_, .f32⟩
  | 19 => ⟨S2x256x64, .f32⟩
  | 20 => ⟨S2x256x64, .f32⟩
  | 21 => ⟨S_, .f32⟩
  | 22 => ⟨S2x256x64, .f32⟩
  | 23 => ⟨S2x256x64, .f32⟩
  | 24 => ⟨S2x256x64, .f32⟩
  | 25 => ⟨S64x64, .f32⟩
  | 26 => ⟨S2x256x64, .f32⟩
  | 27 => ⟨S2x256x64, .f32⟩
  | 28 => ⟨S2x256x64, .f32⟩
  | 29 => ⟨S2x256x64, .f32⟩
  | 30 => ⟨S2x256x128, .f32⟩
  | 31 => ⟨S12, .f32⟩
  | 32 => ⟨S_, .f32⟩
  | 33 => ⟨S12, .f32⟩
  | 34 => ⟨S12, .f32⟩
  | 35 => ⟨S_, .f32⟩
  | 36 => ⟨S12, .f32⟩
  | 37 => ⟨S12, .f32⟩
  | 38 => ⟨S_, .f32⟩
  | 39 => ⟨S12, .f32⟩
  | 40 => ⟨S12, .f32⟩
  | 41 => ⟨S_, .f32⟩
  | 42 => ⟨S12, .f32⟩
  | 43 => ⟨S12, .f32⟩
  | 44 => ⟨S128x12, .f32⟩
  | 45 => ⟨S2x256x128x1, .f32⟩
  | 46 => ⟨S128x11, .f32⟩
  | 47 => ⟨S1x1x128x11, .f32⟩
  | 48 => ⟨S2x256x128x11, .f32⟩
  | 49 => ⟨S2x256x128x11, .f32⟩
  | 50 => ⟨S2x256x128x11, .i1⟩
  | 51 => ⟨S128x11, .f32⟩
  | 52 => ⟨S1x1x128x11, .f32⟩
  | 53 => ⟨S2x256x128x11, .f32⟩
  | 54 => ⟨S2x256x128x11, .f32⟩
  | 55 => ⟨S2x256x128x11, .i1⟩
  | 56 => ⟨S2x256x128x11, .i1⟩
  | 57 => ⟨S2x256x128x11, .f32⟩
  | 58 => ⟨S128x10, .f32⟩
  | 59 => ⟨S1x1x128x10, .f32⟩
  | 60 => ⟨S2x256x128x10, .f32⟩
  | 61 => ⟨S2x256x128x10, .f32⟩
  | 62 => ⟨S2x256x128x10, .f32⟩
  | 63 => ⟨S128x10, .f32⟩
  | 64 => ⟨S128x10, .f32⟩
  | 65 => ⟨S128x10, .f32⟩
  | 66 => ⟨S1x1x128x10, .f32⟩
  | 67 => ⟨S2x256x128x10, .f32⟩
  | 68 => ⟨S2x256x128x10, .f32⟩
  | 69 => ⟨S2x256x128x10, .f32⟩
  | 70 => ⟨S2x256x128x10, .f32⟩
  | 71 => ⟨S128x10, .f32⟩
  | 72 => ⟨S1x1x128x10, .f32⟩
  | 73 => ⟨S2x256x128x10, .f32⟩
  | 74 => ⟨S2x256x128x10, .f32⟩
  | 75 => ⟨S2x256x128x10, .f32⟩
  | 76 => ⟨S128x10, .f32⟩
  | 77 => ⟨S128x10, .f32⟩
  | 78 => ⟨S128x10, .f32⟩
  | 79 => ⟨S1x1x128x10, .f32⟩
  | 80 => ⟨S2x256x128x10, .f32⟩
  | 81 => ⟨S2x256x128x10, .f32⟩
  | 82 => ⟨S2x256x128x10, .f32⟩
  | 83 => ⟨S2x256x128x10, .f32⟩
  | 84 => ⟨S2x256x128x10, .f32⟩
  | 85 => ⟨S128x9, .f32⟩
  | 86 => ⟨S1x1x128x9, .f32⟩
  | 87 => ⟨S2x256x128x9, .f32⟩
  | 88 => ⟨S2x256x128x9, .f32⟩
  | 89 => ⟨S2x256x128x9, .f32⟩
  | 90 => ⟨S128x9, .f32⟩
  | 91 => ⟨S128x9, .f32⟩
  | 92 => ⟨S128x9, .f32⟩
  | 93 => ⟨S1x1x128x9, .f32⟩
  | 94 => ⟨S2x256x128x9, .f32⟩
  | 95 => ⟨S2x256x128x9, .f32⟩
  | 96 => ⟨S2x256x128x9, .f32⟩
  | 97 => ⟨S2x256x128x9, .f32⟩
  | 98 => ⟨S128x9, .f32⟩
  | 99 => ⟨S1x1x128x9, .f32⟩
  | 100 => ⟨S2x256x128x9, .f32⟩
  | 101 => ⟨S2x256x128x9, .f32⟩
  | 102 => ⟨S2x256x128x9, .f32⟩
  | 103 => ⟨S128x9, .f32⟩
  | 104 => ⟨S128x9, .f32⟩
  | 105 => ⟨S128x9, .f32⟩
  | 106 => ⟨S1x1x128x9, .f32⟩
  | 107 => ⟨S2x256x128x9, .f32⟩
  | 108 => ⟨S2x256x128x9, .f32⟩
  | 109 => ⟨S2x256x128x9, .f32⟩
  | 110 => ⟨S2x256x128x9, .f32⟩
  | 111 => ⟨S2x256x128x9, .f32⟩
  | 112 => ⟨S128x8, .f32⟩
  | 113 => ⟨S1x1x128x8, .f32⟩
  | 114 => ⟨S2x256x128x8, .f32⟩
  | 115 => ⟨S2x256x128x8, .f32⟩
  | 116 => ⟨S2x256x128x8, .f32⟩
  | 117 => ⟨S128x8, .f32⟩
  | 118 => ⟨S128x8, .f32⟩
  | 119 => ⟨S128x8, .f32⟩
  | 120 => ⟨S1x1x128x8, .f32⟩
  | 121 => ⟨S2x256x128x8, .f32⟩
  | 122 => ⟨S2x256x128x8, .f32⟩
  | 123 => ⟨S2x256x128x8, .f32⟩
  | 124 => ⟨S2x256x128x8, .f32⟩
  | 125 => ⟨S128x8, .f32⟩
  | 126 => ⟨S1x1x128x8, .f32⟩
  | 127 => ⟨S2x256x128x8, .f32⟩
  | _ => ⟨S2x256x64, .f32⟩

abbrev hbmTy0_3 (i : Nat) : BufTy := match i % 128 with
  | 0 => ⟨S2x256x128x8, .f32⟩
  | 1 => ⟨S2x256x128x8, .f32⟩
  | 2 => ⟨S128x8, .f32⟩
  | 3 => ⟨S128x8, .f32⟩
  | 4 => ⟨S128x8, .f32⟩
  | 5 => ⟨S1x1x128x8, .f32⟩
  | 6 => ⟨S2x256x128x8, .f32⟩
  | 7 => ⟨S2x256x128x8, .f32⟩
  | 8 => ⟨S2x256x128x8, .f32⟩
  | 9 => ⟨S2x256x128x8, .f32⟩
  | 10 => ⟨S2x256x128x8, .f32⟩
  | 11 => ⟨S64x128x1, .f32⟩
  | 12 => ⟨S64x128x8, .f32⟩
  | 13 => ⟨S64x128x8, .f32⟩
  | 14 => ⟨S2x256x128, .f32⟩
  | 15 => ⟨S2x256x128, .f32⟩
  | 16 => ⟨S_, .f32⟩
  | 17 => ⟨S2x256x128, .f32⟩
  | 18 => ⟨S2x256x128, .f32⟩
  | 19 => ⟨S_, .f32⟩
  | 20 => ⟨S2x256x128, .f32⟩
  | 21 => ⟨S2x256x128, .f32⟩
  | 22 => ⟨S2x256x128, .f32⟩
  | 23 => ⟨S128x64, .f32⟩
  | 24 => ⟨S2x256x64, .f32⟩
  | 25 => ⟨S2x256x64, .f32⟩
  | 26 => ⟨S2x256x64, .f32⟩
  | _ => ⟨S2x256x64, .f32⟩

abbrev hbmTy (i : Nat) : BufTy := match i / 128 with
  | 0 => hbmTy0_0 i
  | 1 => hbmTy0_1 i
  | 2 => hbmTy0_2 i
  | 3 => hbmTy0_3 i
  | _ => ⟨S2x256x64, .f32⟩

abbrev bufTy : (tb : Table) → Fin (tcTables nBuf tb) → BufTy
  | .hbm, ⟨i, _⟩ => hbmTy i
  | _, _ => ⟨S2x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_call0_v0 : Ref sig .tc := ⟨.hbm, 127, rfl⟩
abbrev main_call0_v1 : Ref sig .tc := ⟨.hbm, 128, rfl⟩
abbrev main_call0_cst : Ref sig .tc := ⟨.hbm, 129, rfl⟩
abbrev main_call0_v2 : Ref sig .tc := ⟨.hbm, 130, rfl⟩
abbrev main_call0_v3 : Ref sig .tc := ⟨.hbm, 131, rfl⟩
abbrev main_call0_cst_0 : Ref sig .tc := ⟨.hbm, 132, rfl⟩
abbrev main_call0_v4 : Ref sig .tc := ⟨.hbm, 133, rfl⟩
abbrev main_call0_v5 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_c : Ref sig .tc := ⟨.hbm, 141, rfl⟩
abbrev main_v118 : Ref sig .tc := ⟨.hbm, 142, rfl⟩
abbrev main_v119 : Ref sig .tc := ⟨.hbm, 143, rfl⟩
abbrev main_cst_3 : Ref sig .tc := ⟨.hbm, 144, rfl⟩
abbrev main_call1_v0 : Ref sig .tc := ⟨.hbm, 145, rfl⟩
abbrev main_v120 : Ref sig .tc := ⟨.hbm, 146, rfl⟩
abbrev main_cst_4 : Ref sig .tc := ⟨.hbm, 147, rfl⟩
abbrev main_v121 : Ref sig .tc := ⟨.hbm, 148, rfl⟩
abbrev main_cst_5 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_6 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_7 : Ref sig .tc := ⟨.hbm, 162, rfl⟩
abbrev main_v133 : Ref sig .tc := ⟨.hbm, 163, rfl⟩
abbrev main_v134 : Ref sig .tc := ⟨.hbm, 164, rfl⟩
abbrev main_cst_8 : Ref sig .tc := ⟨.hbm, 165, rfl⟩
abbrev main_v135 : Ref sig .tc := ⟨.hbm, 166, rfl⟩
abbrev main_v136 : Ref sig .tc := ⟨.hbm, 167, rfl⟩
abbrev main_cst_9 : Ref sig .tc := ⟨.hbm, 168, rfl⟩
abbrev main_v137 : Ref sig .tc := ⟨.hbm, 169, rfl⟩
abbrev main_v138 : Ref sig .tc := ⟨.hbm, 170, rfl⟩
abbrev main_cst_10 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_v235 : Ref sig .tc := ⟨.hbm, 268, rfl⟩
abbrev main_v236 : Ref sig .tc := ⟨.hbm, 269, rfl⟩
abbrev main_v237 : Ref sig .tc := ⟨.hbm, 270, rfl⟩
abbrev main_v238 : Ref sig .tc := ⟨.hbm, 271, rfl⟩
abbrev main_call2_v0 : Ref sig .tc := ⟨.hbm, 272, rfl⟩
abbrev main_call2_v1 : Ref sig .tc := ⟨.hbm, 273, rfl⟩
abbrev main_call2_cst : Ref sig .tc := ⟨.hbm, 274, rfl⟩
abbrev main_call2_v2 : Ref sig .tc := ⟨.hbm, 275, rfl⟩
abbrev main_call2_v3 : Ref sig .tc := ⟨.hbm, 276, rfl⟩
abbrev main_call2_cst_0 : Ref sig .tc := ⟨.hbm, 277, rfl⟩
abbrev main_call2_v4 : Ref sig .tc := ⟨.hbm, 278, rfl⟩
abbrev main_call2_v5 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_cst_11 : Ref sig .tc := ⟨.hbm, 288, rfl⟩
abbrev main_v247 : Ref sig .tc := ⟨.hbm, 289, rfl⟩
abbrev main_v248 : Ref sig .tc := ⟨.hbm, 290, rfl⟩
abbrev main_cst_12 : Ref sig .tc := ⟨.hbm, 291, rfl⟩
abbrev main_v249 : Ref sig .tc := ⟨.hbm, 292, rfl⟩
abbrev main_v250 : Ref sig .tc := ⟨.hbm, 293, rfl⟩
abbrev main_cst_13 : Ref sig .tc := ⟨.hbm, 294, rfl⟩
abbrev main_v251 : Ref sig .tc := ⟨.hbm, 295, rfl⟩
abbrev main_v252 : Ref sig .tc := ⟨.hbm, 296, rfl⟩
abbrev main_cst_14 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_v282 : Ref sig .tc := ⟨.hbm, 327, rfl⟩
abbrev main_v283 : Ref sig .tc := ⟨.hbm, 328, rfl⟩
abbrev main_v284 : Ref sig .tc := ⟨.hbm, 329, rfl⟩
abbrev main_v285 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩
abbrev main_v341 : Ref sig .tc := ⟨.hbm, 386, rfl⟩
abbrev main_v342 : Ref sig .tc := ⟨.hbm, 387, rfl⟩
abbrev main_v343 : Ref sig .tc := ⟨.hbm, 388, rfl⟩
abbrev main_v344 : Ref sig .tc := ⟨.hbm, 389, rfl⟩
abbrev main_v345 : Ref sig .tc := ⟨.hbm, 390, rfl⟩
abbrev main_v346 : Ref sig .tc := ⟨.hbm, 391, rfl⟩
abbrev main_v347 : Ref sig .tc := ⟨.hbm, 392, rfl⟩
abbrev main_v348 : Ref sig .tc := ⟨.hbm, 393, rfl⟩
abbrev main_v349 : Ref sig .tc := ⟨.hbm, 394, rfl⟩
abbrev main_v350 : Ref sig .tc := ⟨.hbm, 395, rfl⟩
abbrev main_v351 : Ref sig .tc := ⟨.hbm, 396, rfl⟩
abbrev main_v352 : Ref sig .tc := ⟨.hbm, 397, rfl⟩
abbrev main_call3_v0 : Ref sig .tc := ⟨.hbm, 398, rfl⟩
abbrev main_call3_v1 : Ref sig .tc := ⟨.hbm, 399, rfl⟩
abbrev main_call3_cst : Ref sig .tc := ⟨.hbm, 400, rfl⟩
abbrev main_call3_v2 : Ref sig .tc := ⟨.hbm, 401, rfl⟩
abbrev main_call3_v3 : Ref sig .tc := ⟨.hbm, 402, rfl⟩
abbrev main_call3_cst_0 : Ref sig .tc := ⟨.hbm, 403, rfl⟩
abbrev main_call3_v4 : Ref sig .tc := ⟨.hbm, 404, rfl⟩
abbrev main_call3_v5 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_v357 : Ref sig .tc := ⟨.hbm, 410, rfl⟩

abbrev nD : Nat := 1
abbrev τ : Topo := Topo.v7x

variable {F : FTy → Type} [FloatOps F]
-- ==== Proof.Spline.lean ====
/-
  The cubic B-splines of a grid of twelve equally spaced knots, over the real numbers: the Cox-de Boor recursion, and
  its four polynomial pieces in the fractional part of the scaled argument.
-/
module

public import Idealize.ShloMosaic.Lib.Pointwise

@[expose] public section

noncomputable section

namespace Cert.Kan

/-- Knot `n` of the extended grid: the grid of [-1, 1] in five steps, three knots further on either side. -/
def knot (n : ℕ) : ℝ := 2 / 5 * ((n : ℝ) - 3) - 1

/-- The Cox-de Boor recursion: basis function `m` of degree `k`. -/
def B : ℕ → ℕ → ℝ → ℝ
  | 0, m, x => if knot m ≤ x ∧ x < knot (m + 1) then 1 else 0
  | k + 1, m, x => (x - knot m) / (knot (m + k + 1) - knot m) * B k m x
      + (knot (m + k + 2) - x) / (knot (m + k + 2) - knot (m + 1)) * B k (m + 1) x

/-- The distance of two knots. -/
theorem knot_sub (m j : ℕ) : knot (m + j) - knot m = 2 / 5 * j := by
  unfold knot; push_cast; ring

/-- A knot further on. -/
theorem knot_add (m j : ℕ) : knot (m + j) = knot m + 2 / 5 * j := by
  unfold knot; push_cast; ring

/-- The knots ascend. -/
theorem knot_mono {a b : ℕ} (h : a ≤ b) : knot a ≤ knot b := by
  unfold knot; have : (a : ℝ) ≤ b := by exact_mod_cast h
  linarith

/-- The silu of a real number. -/
def silu (x : ℝ) : ℝ := x * (1 / (1 + Real.exp (-x)))

/-- The coefficients, times six, of the four pieces of a cubic B-spline: piece `j`, power `d`. -/
def pieceCoef : ℕ → ℕ → ℤ
  | 0, 3 => 1
  | 1, 0 => 1
  | 1, 1 => 3
  | 1, 2 => 3
  | 1, 3 => -3
  | 2, 0 => 4
  | 2, 2 => -6
  | 2, 3 => 3
  | 3, 0 => 1
  | 3, 1 => -3
  | 3, 2 => 3
  | 3, 3 => -1
  | _, _ => 0

/-- The coefficient, times six, of power `d` on interval `m` of basis function `g`. -/
def coef (m g d : ℕ) : ℤ := if g ≤ m then pieceCoef (m - g) d else 0

/-- On interval `m` the indicator of an interval is one exactly at `m`. -/
theorem B_zero {m : ℕ} {x : ℝ} (h : knot m ≤ x ∧ x < knot (m + 1)) (j : ℕ) : B 0 j x = if j = m then 1 else 0 := by
  unfold B
  by_cases hj : j = m
  · subst hj; rw [if_pos h, if_pos rfl]
  · rw [if_neg hj, if_neg]
    rintro ⟨h1, h2⟩
    rcases Nat.lt_or_gt_of_ne hj with h' | h'
    · have := knot_mono (show j + 1 ≤ m from h'); linarith [h.1]
    · have := knot_mono (show m + 1 ≤ j from h'); linarith [h.2]

/-- On interval `m`, at place `t` of it, basis function `g` is its piece's polynomial. -/
theorem B_piece {m : ℕ} {x t : ℝ} (ht : x = knot m + 2 / 5 * t) (h : knot m ≤ x ∧ x < knot (m + 1)) (g : ℕ) :
    B 3 g x = ((((coef m g 3 : ℝ) * t + coef m g 2) * t + coef m g 1) * t + coef m g 0) / 6 := by
  have e : B 3 g x = (x - knot g) / (6 / 5) * ((x - knot g) / (4 / 5) * ((x - knot g) / (2 / 5) * B 0 g x
        + (knot g + 4 / 5 - x) / (2 / 5) * B 0 (g + 1) x)
      + (knot g + 6 / 5 - x) / (4 / 5) * ((x - knot g - 2 / 5) / (2 / 5) * B 0 (g + 1) x
        + (knot g + 6 / 5 - x) / (2 / 5) * B 0 (g + 2) x))
      + (knot g + 8 / 5 - x) / (6 / 5) * ((x - knot g - 2 / 5) / (4 / 5) * ((x - knot g - 2 / 5) / (2 / 5) * B 0 (g + 1) x
        + (knot g + 6 / 5 - x) / (2 / 5) * B 0 (g + 2) x)
      + (knot g + 8 / 5 - x) / (4 / 5) * ((x - knot g - 4 / 5) / (2 / 5) * B 0 (g + 2) x
        + (knot g + 8 / 5 - x) / (2 / 5) * B 0 (g + 3) x)) := by
    have hb : ∀ k m x, B (k + 1) m x = (x - knot m) / (knot (m + k + 1) - knot m) * B k m x
      + (knot (m + k + 2) - x) / (knot (m + k + 2) - knot (m + 1)) * B k (m + 1) x := fun _ _ _ => rfl
    simp only [hb, knot_add]
    push_cast
    ring_nf
  rw [e]
  simp only [B_zero h]
  by_cases hg : g ≤ m
  · obtain ⟨j, rfl⟩ := Nat.exists_eq_add_of_le hg
    rw [knot_add] at ht
    subst ht
    have hc : ∀ d, coef (g + j) g d = pieceCoef j d := fun d => by unfold coef; rw [if_pos hg, Nat.add_sub_cancel_left]
    simp only [hc]
    match j with
    | 0 => simp [pieceCoef]; ring
    | 1 => simp [pieceCoef]; ring
    | 2 => simp [pieceCoef]; ring
    | 3 => simp [pieceCoef]; ring
    | j + 4 =>
      have h0 : ¬ g = g + (j + 4) := by omega
      have h1 : ¬ g + 1 = g + (j + 4) := by omega
      have h2 : ¬ g + 2 = g + (j + 4) := by omega
      have h3 : ¬ g + 3 = g + (j + 4) := by omega
      simp [pieceCoef]
  · have hc : ∀ d, coef m g d = 0 := fun d => by unfold coef; rw [if_neg hg]
    have h0 : ¬ g = m := by omega
    have h1 : ¬ g + 1 = m := by omega
    have h2 : ¬ g + 2 = m := by omega
    have h3 : ¬ g + 3 = m := by omega
    simp [hc, h0, h1, h2, h3]

/-- Before the first knot and from the last one on, every basis function of the grid vanishes. -/
theorem B_out {x : ℝ} (h : x < knot 0 ∨ knot 11 ≤ x) (g : ℕ) (hg : g < 8) : B 3 g x = 0 := by
  have h0 : ∀ j, j < 11 → B 0 j x = 0 := fun j hj => by
    unfold B
    rw [if_neg]
    rintro ⟨h1, h2⟩
    rcases h with h | h
    · have := knot_mono (Nat.zero_le j); linarith
    · have := knot_mono (show j + 1 ≤ 11 from hj); linarith
  have hb : ∀ k m x, B (k + 1) m x = (x - knot m) / (knot (m + k + 1) - knot m) * B k m x
      + (knot (m + k + 2) - x) / (knot (m + k + 2) - knot (m + 1)) * B k (m + 1) x := fun _ _ _ => rfl
  simp only [hb]
  rw [h0 g (by omega), h0 (g + 1) (by omega), h0 (g + 1 + 1) (by omega), h0 (g + 1 + 1 + 1) (by omega)]
  simp

end Cert.Kan
-- ==== Proof.Scalar.lean ====
/-
  The scalar functions of the extended reals that the kernel and the reference apply elementwise, at real arguments:
  the silu in its two spellings, the Cox-de Boor recursion in its two spellings.
-/
module

public import proofs.«01_k».proof.Proof.Spline

@[expose] public section

noncomputable section

namespace Cert.Kan

open Idealize.ShloMosaic

/-- The kernel's step function at a knot. -/
def step (m : ℕ) (x : EReal) : EReal := if (knot m : EReal) ≤ x then 1 else 0

/-- The reciprocal of the distance of two knots `k + 1` apart. -/
def recip (k : ℕ) : ℝ := 5 / (2 * ((k : ℝ) + 1))

/-- The kernel's Cox-de Boor recursion: differences of steps, then products with reciprocals of knot distances. -/
def kb : ℕ → ℕ → EReal → EReal
  | 0, m, x => step m x - step (m + 1) x
  | k + 1, m, x => (x - (knot m : EReal)) * (kb k m x * (recip k : EReal))
      - (x - (knot (m + k + 2) : EReal)) * (kb k (m + 1) x * (recip k : EReal))

/-- The kernel's silu: a power of two of the scaled argument. -/
def ksilu (x : EReal) : EReal := x * Ideal.div 1 (1 + Ideal.exp2 (x * ((-((Real.log 2)⁻¹) : ℝ) : EReal)))

/-- The reference's silu. -/
def rsilu (x : EReal) : EReal := x * Ideal.div 1 (1 + Ideal.exp (-x))

/-- A quotient of reals with a nonzero divisor, in the extended reals. -/
theorem div_real (a : ℝ) {b : ℝ} (hb : b ≠ 0) : Ideal.div (a : EReal) (b : EReal) = ((a / b : ℝ) : EReal) := by
  rw [Ideal.div_coe hb, ← EReal.coe_mul, mul_one_div]

/-- A step at a real argument is real. -/
theorem step_coe (m : ℕ) (x : ℝ) : step m (x : EReal) = ((if knot m ≤ x then 1 else 0 : ℝ) : EReal) := by
  unfold step
  by_cases h : knot m ≤ x
  · rw [if_pos h, if_pos (by exact_mod_cast h)]; rfl
  · rw [if_neg h, if_neg (by exact_mod_cast h)]; rfl

/-- The kernel's recursion at a real argument is the basis function. -/
theorem kb_coe (k m : ℕ) (x : ℝ) : kb k m (x : EReal) = (B k m x : EReal) := by
  induction k generalizing m with
  | zero =>
    unfold kb B
    rw [step_coe, step_coe, ← EReal.coe_sub]
    congr 1
    have hm := knot_mono (Nat.le_succ m)
    by_cases h1 : knot m ≤ x
    · by_cases h2 : knot (m + 1) ≤ x
      · rw [if_pos h1, if_pos h2, if_neg (by rintro ⟨_, h⟩; linarith)]; norm_num
      · rw [if_pos h1, if_neg h2, if_pos ⟨h1, not_le.mp h2⟩]; norm_num
    · have h2 : ¬ knot (m + 1) ≤ x := fun h => h1 (le_trans hm h)
      rw [if_neg h1, if_neg h2, if_neg (by rintro ⟨h, _⟩; exact h1 h)]; norm_num
  | succ k ih =>
    unfold kb B
    rw [ih, ih]
    have hk : (k : ℝ) + 1 ≠ 0 := by positivity
    rw [← EReal.coe_sub, ← EReal.coe_sub, ← EReal.coe_mul, ← EReal.coe_mul, ← EReal.coe_mul, ← EReal.coe_mul, ← EReal.coe_sub]
    congr 1
    have e1 : knot (m + k + 1) - knot m = 2 / 5 * ((k : ℝ) + 1) := by
      rw [add_assoc, knot_sub]; push_cast; ring
    have e2 : knot (m + k + 2) - knot (m + 1) = 2 / 5 * ((k : ℝ) + 1) := by
      rw [show m + k + 2 = (m + 1) + (k + 1) by ring, knot_sub]; push_cast; ring
    rw [e1, e2]
    unfold recip
    field_simp
    ring

/-- The kernel's silu at a real argument. -/
theorem ksilu_coe (x : ℝ) : ksilu (x : EReal) = (silu x : EReal) := by
  unfold ksilu silu
  have h2 : Real.rpow 2 (x * -((Real.log 2)⁻¹)) = Real.exp (-x) := by
    show (2 : ℝ) ^ (x * -((Real.log 2)⁻¹)) = _
    have hl : Real.log 2 ≠ 0 := (Real.log_pos (by norm_num)).ne'
    rw [Real.rpow_def_of_pos (by norm_num)]
    congr 1
    field_simp
  rw [← EReal.coe_mul]
  show (x : EReal) * Ideal.div 1 (1 + ((Real.rpow 2 (x * -((Real.log 2)⁻¹)) : ℝ) : EReal)) = _
  rw [h2]
  have hp : (1 : ℝ) + Real.exp (-x) ≠ 0 := by have := Real.exp_pos (-x); positivity
  rw [← EReal.coe_one, ← EReal.coe_add, div_real _ hp, ← EReal.coe_mul]

/-- The reference's silu at a real argument. -/
theorem rsilu_coe (x : ℝ) : rsilu (x : EReal) = (silu x : EReal) := by
  unfold rsilu silu
  rw [← EReal.coe_neg]
  show (x : EReal) * Ideal.div 1 (1 + ((Real.exp (-x) : ℝ) : EReal)) = _
  have hp : (1 : ℝ) + Real.exp (-x) ≠ 0 := by have := Real.exp_pos (-x); positivity
  rw [← EReal.coe_one, ← EReal.coe_add, div_real _ hp, ← EReal.coe_mul]

/-- One step of the reference's recursion at real arguments. -/
theorem rb_step (k m : ℕ) (x : ℝ) :
    Ideal.div ((x : EReal) - (knot m : EReal)) ((knot (m + k + 1) : EReal) - (knot m : EReal)) * (B k m x : EReal)
      + Ideal.div ((knot (m + k + 2) : EReal) - (x : EReal)) ((knot (m + k + 2) : EReal) - (knot (m + 1) : EReal))
        * (B k (m + 1) x : EReal) = (B (k + 1) m x : EReal) := by
  have hk : (k : ℝ) + 1 ≠ 0 := by positivity
  have e1 : knot (m + k + 1) - knot m = 2 / 5 * ((k : ℝ) + 1) := by
    rw [add_assoc, knot_sub]; push_cast; ring
  have e2 : knot (m + k + 2) - knot (m + 1) = 2 / 5 * ((k : ℝ) + 1) := by
    rw [show m + k + 2 = (m + 1) + (k + 1) by ring, knot_sub]; push_cast; ring
  rw [← EReal.coe_sub, ← EReal.coe_sub, ← EReal.coe_sub, ← EReal.coe_sub, div_real _ (by rw [e1]; positivity),
    div_real _ (by rw [e2]; positivity), ← EReal.coe_mul, ← EReal.coe_mul, ← EReal.coe_add]
  rfl

/-- A finite sum of reals, in the extended reals. -/
theorem sum_coe {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

end Cert.Kan
-- ==== Proof.Consts.lean ====
/-
  The values of the constants the kernel writes: the named ones by the certificate's table, the others by their words.
-/
module

public import proofs.«01_k».proof.Proof.Scalar
public import proofs.«01_k».proof.Proof.Gen.KernelIdeal.Skeleton
public import Idealize.ShloMosaic.PureOps.IdealRules

@[expose] public section

noncomputable section

namespace Cert.Kan

open Idealize.ShloMosaic Cert.KernelIdeal

/-- A named constant's value, from its entry of the table. -/
theorem named_val {name : String} {b : BitVec 32} {v w : ℝ} (h : κ name = some (v : EReal)) (e : v = w) :
    Named.named (F := Ideal) κ name (φ := .f32) b = (w : EReal) := by
  subst e; exact IdealRules.named_const.ideal_named_scalar _ _ _ _ h

/-- The named constant of knot 0 is knot 0. -/
theorem named_knot0 : Named.named (F := Ideal) κ "knot0" (φ := .f32) 0xC00CCCCD#32 = (knot 0 : EReal) := named_val (v := -11 / 5) rfl (by unfold knot; norm_num)
/-- The named constant of knot 1 is knot 1. -/
theorem named_knot1 : Named.named (F := Ideal) κ "knot1" (φ := .f32) 0xBFE66666#32 = (knot 1 : EReal) := named_val (v := -9 / 5) rfl (by unfold knot; norm_num)
/-- The named constant of knot 2 is knot 2. -/
theorem named_knot2 : Named.named (F := Ideal) κ "knot2" (φ := .f32) 0xBFB33333#32 = (knot 2 : EReal) := named_val (v := -7 / 5) rfl (by unfold knot; norm_num)
/-- The named constant of knot 4 is knot 4. -/
theorem named_knot4 : Named.named (F := Ideal) κ "knot4" (φ := .f32) 0xBF19999A#32 = (knot 4 : EReal) := named_val (v := -3 / 5) rfl (by unfold knot; norm_num)
/-- The named constant of knot 5 is knot 5. -/
theorem named_knot5 : Named.named (F := Ideal) κ "knot5" (φ := .f32) 0xBE4CCCCD#32 = (knot 5 : EReal) := named_val (v := -1 / 5) rfl (by unfold knot; norm_num)
/-- The named constant of knot 6 is knot 6. -/
theorem named_knot6 : Named.named (F := Ideal) κ "knot6" (φ := .f32) 0x3E4CCCCD#32 = (knot 6 : EReal) := named_val (v := 1 / 5) rfl (by unfold knot; norm_num)
/-- The named constant of knot 7 is knot 7. -/
theorem named_knot7 : Named.named (F := Ideal) κ "knot7" (φ := .f32) 0x3F19999A#32 = (knot 7 : EReal) := named_val (v := 3 / 5) rfl (by unfold knot; norm_num)
/-- The named constant of knot 9 is knot 9. -/
theorem named_knot9 : Named.named (F := Ideal) κ "knot9" (φ := .f32) 0x3FB33333#32 = (knot 9 : EReal) := named_val (v := 7 / 5) rfl (by unfold knot; norm_num)
/-- The named constant of knot 10 is knot 10. -/
theorem named_knot10 : Named.named (F := Ideal) κ "knot10" (φ := .f32) 0x3FE66666#32 = (knot 10 : EReal) := named_val (v := 9 / 5) rfl (by unfold knot; norm_num)
/-- The named constant of knot 11 is knot 11. -/
theorem named_knot11 : Named.named (F := Ideal) κ "knot11" (φ := .f32) 0x400CCCCD#32 = (knot 11 : EReal) := named_val (v := 11 / 5) rfl (by unfold knot; norm_num)
/-- The named 5/6 is the reciprocal of the distance of knots three apart. -/
theorem named_recip2 : Named.named (F := Ideal) κ "five_sixths" (φ := .f32) 0x3F555555#32 = (recip 2 : EReal) := named_val (v := 5 / 6) rfl (by unfold recip; norm_num)
/-- The named constant of the sigmoid is minus the reciprocal of log 2. -/
theorem named_log2e : Named.named (F := Ideal) κ "neg_log2e" (φ := .f32) 0xBFB8AA3B#32 = ((-((Real.log 2)⁻¹) : ℝ) : EReal) := named_val rfl rfl

/-- The literal -1 is knot 3. -/
theorem lit_knot3 : Ideal.ofBits .f32 0xBF800000#32 = (knot 3 : EReal) := by
  have : Ideal.ofBits .f32 0xBF800000#32 = ((-1 : ℝ) : EReal) := by simp [Ideal.ofBits, Ideal.ieee, -EReal.coe_mul]; norm_num
  rw [this]; congr 1; unfold knot; norm_num

/-- Knot 8 is 1. -/
theorem knot8 : (knot 8 : EReal) = 1 := by
  have : knot 8 = 1 := by unfold knot; norm_num
  rw [this]; rfl

/-- The literal 5/2 is the reciprocal of the distance of neighbouring knots. -/
theorem lit_recip0 : Ideal.ofBits .f32 0x40200000#32 = (recip 0 : EReal) := by
  have : Ideal.ofBits .f32 0x40200000#32 = ((5 / 2 : ℝ) : EReal) := by simp [Ideal.ofBits, Ideal.ieee, -EReal.coe_mul]; norm_num
  rw [this]; congr 1; unfold recip; norm_num

/-- The literal 5/4 is the reciprocal of the distance of knots two apart. -/
theorem lit_recip1 : Ideal.ofBits .f32 0x3FA00000#32 = (recip 1 : EReal) := by
  have : Ideal.ofBits .f32 0x3FA00000#32 = ((5 / 4 : ℝ) : EReal) := by simp [Ideal.ofBits, Ideal.ieee, -EReal.coe_mul]; norm_num
  rw [this]; congr 1; unfold recip; norm_num

/-- The literal 2. -/
theorem lit_2 : Ideal.ofBits .f32 0x40000000#32 = ((2 : ℝ) : EReal) := by simp [Ideal.ofBits, Ideal.ieee, -EReal.coe_mul]; norm_num
/-- The literal 3. -/
theorem lit_3 : Ideal.ofBits .f32 0x40400000#32 = ((3 : ℝ) : EReal) := by simp [Ideal.ofBits, Ideal.ieee, -EReal.coe_mul]; norm_num
/-- The literal 4. -/
theorem lit_4 : Ideal.ofBits .f32 0x40800000#32 = ((4 : ℝ) : EReal) := by simp [Ideal.ofBits, Ideal.ieee, -EReal.coe_mul]; norm_num
/-- The literal 5. -/
theorem lit_5 : Ideal.ofBits .f32 0x40A00000#32 = ((5 : ℝ) : EReal) := by simp [Ideal.ofBits, Ideal.ieee, -EReal.coe_mul]; norm_num
/-- The literal 6. -/
theorem lit_6 : Ideal.ofBits .f32 0x40C00000#32 = ((6 : ℝ) : EReal) := by simp [Ideal.ofBits, Ideal.ieee, -EReal.coe_mul]; norm_num
/-- The literal 7. -/
theorem lit_7 : Ideal.ofBits .f32 0x40E00000#32 = ((7 : ℝ) : EReal) := by simp [Ideal.ofBits, Ideal.ieee, -EReal.coe_mul]; norm_num
/-- The literal 8. -/
theorem lit_8 : Ideal.ofBits .f32 0x41000000#32 = ((8 : ℝ) : EReal) := by simp [Ideal.ofBits, Ideal.ieee, -EReal.coe_mul]; norm_num
/-- The literal 9. -/
theorem lit_9 : Ideal.ofBits .f32 0x41100000#32 = ((9 : ℝ) : EReal) := by simp [Ideal.ofBits, Ideal.ieee, -EReal.coe_mul]; norm_num
/-- The literal 10. -/
theorem lit_10 : Ideal.ofBits .f32 0x41200000#32 = ((10 : ℝ) : EReal) := by simp [Ideal.ofBits, Ideal.ieee, -EReal.coe_mul]; norm_num
/-- The literal 11. -/
theorem lit_11 : Ideal.ofBits .f32 0x41300000#32 = ((11 : ℝ) : EReal) := by simp [Ideal.ofBits, Ideal.ieee, -EReal.coe_mul]; norm_num

/-- The literal -11/2, the position of the first knot in cells. -/
theorem lit_cell : Ideal.ofBits .f32 0xC0B00000#32 = ((-11 / 2 : ℝ) : EReal) := by simp [Ideal.ofBits, Ideal.ieee, -EReal.coe_mul]; norm_num

/-- A selection on a comparison is an `if`. -/
theorem select_oge {α : Type} (x y : EReal) (a b : α) : Scalar.select (Ideal.cmp .oge x y) a b = if y ≤ x then a else b := by
  unfold Scalar.select Ideal.cmp
  by_cases h : y ≤ x <;> simp [h]

end Cert.Kan
-- ==== Proof.Block.lean ====
/-
  What one block of the kernel computes, entry by entry: the messages kept in the scratch, the energies, the softmax
  weights, the features and the last layer.
-/
module

public import proofs.«01_k».proof.Proof.Gen.KernelIdeal.Value
public import Idealize.ShloMosaic.Lib.Pipeline.ValueKit
public import proofs.«01_k».proof.Proof.Consts

@[expose] public section

set_option maxRecDepth 16384
noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Kan

/-- The two zero offsets are the zero offset. -/
theorem hz2 : (![0, 0] : Fin 2 → Nat) = fun _ => 0 := funext fun a => by fin_cases a <;> rfl
/-- The three zero offsets are the zero offset. -/
theorem hz3 : (![0, 0, 0] : Fin 3 → Nat) = fun _ => 0 := funext fun a => by fin_cases a <;> rfl

/-- One output of a layer in the kernel's order: the base product, then the product of each basis function with its weights. -/
def kan {D : ℕ} (v wb : Fin D → EReal) (ws : Fin 8 → Fin D → EReal) : EReal :=
  (∑ c, ksilu (v c) * wb c) + (∑ c, kb 3 0 (v c) * ws 0 c) + (∑ c, kb 3 1 (v c) * ws 1 c) + (∑ c, kb 3 2 (v c) * ws 2 c)
    + (∑ c, kb 3 3 (v c) * ws 3 c) + (∑ c, kb 3 4 (v c) * ws 4 c) + (∑ c, kb 3 5 (v c) * ws 5 c) + (∑ c, kb 3 6 (v c) * ws 6 c)
    + (∑ c, kb 3 7 (v c) * ws 7 c)

/-- The largest energy of a row, from minus infinity. -/
def rowMax (e : Fin 256 → EReal) : EReal := Finset.fold max (Ideal.ofBits .f32 0xFF800000#32) e Finset.univ

/-- The softmax weight of entry `j` of a row of energies. -/
def weight (e : Fin 256 → EReal) (j : Fin 256) : EReal := Ideal.div (Ideal.exp (e j - rowMax e)) (∑ k, Ideal.exp (e k - rowMax e))

/-- The features of a node: its own values, then the messages gathered with the weights. -/
def feat (x : Fin 64 → EReal) (e : Fin 256 → EReal) (s : Fin 256 → Fin 64 → EReal) (o : Fin 128) : EReal :=
  if h : o.val < 64 then x ⟨o.val, h⟩ else ∑ j, weight e j * s j ⟨o.val - 64, by omega⟩

/-- The entry of a table of 13 the cell number picks, by the kernel's tree of comparisons. -/
def pick (mf : EReal) (a : ℕ → EReal) : EReal :=
  let s (t : ℝ) (u v : EReal) : EReal := if (t : EReal) ≤ mf then u else v
  s 6 (s 9 (s 11 (a 12) (s 10 (a 11) (a 10))) (s 8 (a 9) (s 7 (a 8) (a 7))))
    (s 3 (s 5 (a 6) (s 4 (a 5) (a 4))) (s 1 (s 2 (a 3) (a 2)) (s 0 (a 1) (a 0))))

/-- The position of `r` on the grid, in cells from the first knot. -/
def cell (r : EReal) : EReal := r * (recip 0 : EReal) - ((-11 / 2 : ℝ) : EReal)

/-- The cell number of `r`. -/
def cellNo (r : EReal) : EReal := FloatOps.floor (F := Ideal) (φ := .f32) (cell r)

/-- One lane of an energy: the cubic of the cell in the position within it, and the base term. -/
def lane (T : ℕ → EReal) (w r : EReal) : EReal :=
  (((pick (cellNo r) (fun p => T p) * (cell r - cellNo r) + pick (cellNo r) (fun p => T (13 + p))) * (cell r - cellNo r)
    + pick (cellNo r) (fun p => T (26 + p))) * (cell r - cellNo r) + pick (cellNo r) (fun p => T (39 + p))) + ksilu r * w

/-- A row of energies from the 128 lanes of each pair: sum and signed sum give the first and the second half of the row. -/
def halves (adj : Fin 256 → BitVec 32) (f : Fin 128 → Fin 128 → EReal) (sgn : Fin 128 → EReal) (j : Fin 256) : EReal :=
  Scalar.select (IntOp.cmpi .eq (adj j) 0#32) (Ideal.ofBits .f32 0xCE6E6B28#32)
    (if h : j.val < 128 then (∑ l, f ⟨j.val, h⟩ l) + ∑ l, f ⟨j.val, h⟩ l * sgn l
    else (∑ l, f ⟨j.val - 128, by omega⟩ l) - ∑ l, f ⟨j.val - 128, by omega⟩ l * sgn l)

/-- A row of energies: each lane of a pair at the difference of the two nodes' values. -/
def energy (adj : Fin 256 → BitVec 32) (xi : Fin 128 → EReal) (x2 : Fin 128 → Fin 128 → EReal) (T : ℕ → Fin 128 → EReal)
    (w sgn : Fin 128 → EReal) : Fin 256 → EReal := halves adj (fun j l => lane (fun p => T p l) (w l) (xi l - x2 j l)) sgn

/-- The energies the kernel computes, from the cubic's coefficients before the last choices. -/
theorem pay162_at (v7 v10 : FVec Ideal S1x1x128 .f32) (v20 v26 : FVec Ideal S64x128x128 .f32) (u : FVec Ideal S64x128x128 .bf16)
    (m6 m9 m11 : IVec S64x128x128 1) (a2 a3 b0 b1 c0 c1 d1 d0 : FVec Ideal S64x128x128 .bf16) (adj : Vec Ideal S1x64x256 .i32)
    (r : Fin 64) (j : Fin 256) :
    k0_pay162 v7 v10 v20 v26 u m6 m9 m11 a2 a3 b0 b1 c0 c1 d1 d0 adj (ix2 r j)
      = halves (fun j => adj (ix3 0 r j)) (fun j l =>
          (((a3 (ix3 r j l) * v26 (ix3 r j l) + a2 (ix3 r j l)) * v26 (ix3 r j l)
            + Scalar.select (m6 (ix3 r j l)) (Scalar.select (m9 (ix3 r j l)) (Scalar.select (m11 (ix3 r j l)) (u (ix3 r j l)) (d1 (ix3 r j l)))
                (c1 (ix3 r j l))) (b1 (ix3 r j l))) * v26 (ix3 r j l)
            + Scalar.select (m6 (ix3 r j l)) (Scalar.select (m9 (ix3 r j l)) (d0 (ix3 r j l)) (c0 (ix3 r j l))) (b0 (ix3 r j l)))
          + ksilu (v20 (ix3 r j l)) * v7 (ix3 0 0 l)) (fun l => v10 (ix3 0 0 l)) j := by
  unfold k0_pay162
  pointwise []
  simp only [named_log2e]
  rfl

/-- The messages of a block of nodes. -/
def msgBlk (x0 : Vec Ideal S1x256x64 .f32) (x7 : Vec Ideal S64x64 .f32) (x8 : Vec Ideal S8x64x64 .f32) : Vec Ideal S256x64 .f32 :=
  fun j => kan (fun k : Fin 64 => x0 (ix3 0 (j 0) k)) (fun k => x7 (ix2 k (j 1))) (fun g k => x8 (ix3 g k (j 1)))

/-- Row `r` of the block at grid point `i`, as a row of the whole array. -/
def rowOf (i : grid0.Coords) (r : Fin 64) : Fin 256 := ⟨64 * (i 1).val + r.val, by have : (i 1).val < 4 := (i 1).isLt; omega⟩

/-- The energies of row `r` of the block at grid point `i`. -/
def enBlk (i : grid0.Coords) (x1 : Vec Ideal S1x256x128 .f32) (x2 : Vec Ideal S1x128x128 .f32) (x3 : Vec Ideal S1x64x256 .i32)
    (x4 : Vec Ideal S1x128 .f32) (x5 : Vec Ideal S1x128 .f32) (x6 : Vec Ideal S52x128 .f32) (r : Fin 64) : Fin 256 → EReal :=
  energy (fun j => x3 (ix3 0 r j)) (fun l => x1 (ix3 0 (rowOf i r) l)) (fun j l => x2 (ix3 0 j l)) (fun p l => x6 (ix2 (Fin.ofNat 52 p) l))
    (fun l => x4 (ix2 0 l)) (fun l => x5 (ix2 0 l))

/-- The output block at grid point `i`, from the blocks it reads and the messages `s`. -/
def blkOut (i : grid0.Coords) (x0 : Vec Ideal S1x256x64 .f32) (x1 : Vec Ideal S1x256x128 .f32) (x2 : Vec Ideal S1x128x128 .f32)
    (x3 : Vec Ideal S1x64x256 .i32) (x4 : Vec Ideal S1x128 .f32) (x5 : Vec Ideal S1x128 .f32) (x6 : Vec Ideal S52x128 .f32)
    (x9 : Vec Ideal S128x64 .f32) (x10 : Vec Ideal S8x128x64 .f32) (s : Vec Ideal S256x64 .f32) : Vec Ideal S1x64x64 .f32 := fun j =>
  kan (feat (fun c => x0 (ix3 0 (rowOf i (j 1)) c)) (enBlk i x1 x2 x3 x4 x5 x6 (j 1)) (fun k c => s (ix2 k c)))
    (fun k => x9 (ix2 k (j 2))) (fun g k => x10 (ix3 g k (j 2)))

/-- The messages a point of case A leaves in the scratch. -/
theorem sout_A (c : Dev nD) (i : grid0.Coords) (a2 : Memref sig .tc .vmem S1x256x64 .f32) (h2 : a2.IsWhole) (a3 : Memref sig .tc .vmem S1x256x128 .f32)
    (h3 : a3.IsWhole) (a4 : Memref sig .tc .vmem S1x128x128 .f32) (h4 : a4.IsWhole) (a5 : Memref sig .tc .vmem S1x64x256 .i32) (h5 : a5.IsWhole)
    (a6 : Memref sig .tc .vmem S1x128 .f32) (h6 : a6.IsWhole) (a7 : Memref sig .tc .vmem S1x128 .f32) (h7 : a7.IsWhole)
    (a8 : Memref sig .tc .vmem S52x128 .f32) (h8 : a8.IsWhole) (a9 : Memref sig .tc .vmem S64x64 .f32) (h9 : a9.IsWhole)
    (a10 : Memref sig .tc .vmem S8x64x64 .f32) (h10 : a10.IsWhole) (a11 : Memref sig .tc .vmem S128x64 .f32) (h11 : a11.IsWhole)
    (a12 : Memref sig .tc .vmem S8x128x64 .f32) (h12 : a12.IsWhole) (a13 : Memref sig .tc .vmem S1x64x64 .f32) (h13 : a13.IsWhole)
    (a14 : Memref sig .tc .vmem S256x64 .f32) (h14 : a14.IsWhole) (hc0 : cond0_0 i) (x0 : Vec Ideal S1x256x64 .f32) (x1 : Vec Ideal S1x256x128 .f32)
    (x2 : Vec Ideal S1x128x128 .f32) (x3 : Vec Ideal S1x64x256 .i32) (x4 : Vec Ideal S1x128 .f32) (x5 : Vec Ideal S1x128 .f32)
    (x6 : Vec Ideal S52x128 .f32) (x7 : Vec Ideal S64x64 .f32) (x8 : Vec Ideal S8x64x64 .f32) (x9 : Vec Ideal S128x64 .f32)
    (x10 : Vec Ideal S8x128x64 .f32) :
    sout0_A_0 c i a2 h2 a3 h3 a4 h4 a5 h5 a6 h6 a7 h7 a8 h8 a9 h9 a10 h10 a11 h11 a12 h12 a13 h13 a14 h14 hc0 x0 x1 x2 x3 x4 x5 x6 x7 x8 x9 x10 = msgBlk x0 x7 x8 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 x0 x1 x2 x3 x4 x5 x6 x7 x8 x9 x10)]
  unfold kernelRun0_A
  dsimp only
  sl_unfold_words
  rw [View.canon_unit_zero hz2]
  simp only [View.readAt_eq_ld, h2.read_unread, h3.read_unread, h4.read_unread, h5.read_unread, h6.read_unread, h7.read_unread,
    h8.read_unread, h9.read_unread, h10.read_unread, h11.read_unread, h12.read_unread, shapeCast_self]
  funext j
  idx_vars j
  unfold_payloads
  pointwise []
  simp only [named_knot0, named_knot1, named_knot2, named_knot4, named_knot5, named_knot6, named_knot7, named_knot9, named_knot10, named_knot11,
    named_recip2, named_log2e, lit_knot3, lit_recip0, lit_recip1, select_oge,
    msgBlk, kan, kb, step, ksilu, knot8, Nat.reduceAdd]
  rfl

set_option maxHeartbeats 400000 in
/-- The output block of a point of case B. -/
theorem out_B (c : Dev nD) (i : grid0.Coords) (a2 : Memref sig .tc .vmem S1x256x64 .f32) (h2 : a2.IsWhole) (a3 : Memref sig .tc .vmem S1x256x128 .f32)
    (h3 : a3.IsWhole) (a4 : Memref sig .tc .vmem S1x128x128 .f32) (h4 : a4.IsWhole) (a5 : Memref sig .tc .vmem S1x64x256 .i32) (h5 : a5.IsWhole)
    (a6 : Memref sig .tc .vmem S1x128 .f32) (h6 : a6.IsWhole) (a7 : Memref sig .tc .vmem S1x128 .f32) (h7 : a7.IsWhole)
    (a8 : Memref sig .tc .vmem S52x128 .f32) (h8 : a8.IsWhole) (a9 : Memref sig .tc .vmem S64x64 .f32) (h9 : a9.IsWhole)
    (a10 : Memref sig .tc .vmem S8x64x64 .f32) (h10 : a10.IsWhole) (a11 : Memref sig .tc .vmem S128x64 .f32) (h11 : a11.IsWhole)
    (a12 : Memref sig .tc .vmem S8x128x64 .f32) (h12 : a12.IsWhole) (a13 : Memref sig .tc .vmem S1x64x64 .f32) (h13 : a13.IsWhole)
    (a14 : Memref sig .tc .vmem S256x64 .f32) (h14 : a14.IsWhole) (hc0 : ¬ cond0_0 i) (x0 : Vec Ideal S1x256x64 .f32) (x1 : Vec Ideal S1x256x128 .f32)
    (x2 : Vec Ideal S1x128x128 .f32) (x3 : Vec Ideal S1x64x256 .i32) (x4 : Vec Ideal S1x128 .f32) (x5 : Vec Ideal S1x128 .f32)
    (x6 : Vec Ideal S52x128 .f32) (x7 : Vec Ideal S64x64 .f32) (x8 : Vec Ideal S8x64x64 .f32) (x9 : Vec Ideal S128x64 .f32)
    (x10 : Vec Ideal S8x128x64 .f32) (xs : Vec Ideal S256x64 .f32) :
    out0_B_11 c i a2 h2 a3 h3 a4 h4 a5 h5 a6 h6 a7 h7 a8 h8 a9 h9 a10 h10 a11 h11 a12 h12 a13 h13 a14 h14 hc0 x0 x1 x2 x3 x4 x5 x6 x7 x8 x9 x10 xs
      = blkOut i x0 x1 x2 x3 x4 x5 x6 x9 x10 xs := by
  unfold out0_B_11
  rw [View.read_writes_eq_canon _ _ _ (cover0_B_11 c i a2 h2 a3 h3 a4 h4 a5 h5 a6 h6 a7 h7 a8 h8 a9 h9 a10 h10 a11 h11 a12 h12 a13 h13 a14 h14 hc0 x0 x1 x2 x3 x4 x5 x6 x7 x8 x9 x10 xs)]
  unfold kernelRun0_B
  dsimp only
  sl_unfold_words
  rw [View.canon_unit_zero hz3]
  simp only [View.readAt_eq_ld, h2.read_unread, h3.read_unread, h4.read_unread, h5.read_unread, h6.read_unread, h7.read_unread,
    h8.read_unread, h9.read_unread, h10.read_unread, h11.read_unread, h12.read_unread, h14.read_unread, shapeCast_self]
  unfold k0_pay165 k0_pay166 k0_pay167 k0_pay168
  generalize hE : k0_pay162 (F := Ideal) _ _ _ _ _ _ _ _ _ _ _ _ _ _ _ _ _ = E
  generalize hC : k0_pay164 (F := Ideal) _ _ _ _ = comb
  have he : ∀ r j, E (ix2 r j) = enBlk i x1 x2 x3 x4 x5 x6 r j := by
    intro r j
    rw [← hE]
    clear hE hC
    generalize hr : k0_pay78 (F := Ideal) _ _ = rr
    generalize hf : k0_pay80 (F := Ideal) _ _ = mf
    generalize ht : k0_pay81 (F := Ideal) _ _ = tt
    have er : ∀ j l, rr (ix3 r j l) = x1 (ix3 0 (rowOf i r) l) - x2 (ix3 0 j l) := by
      intro j l
      rw [← hr]
      unfold k0_pay78
      pointwise []
      exact congrArg (fun q : Fin 256 => x1 (ix3 0 q l) - x2 (ix3 0 j l)) (Fin.ext (congrArg (· + r.val) (congrFun (k0_off1_eq i) 1)))
    have ef : ∀ j l, mf (ix3 r j l) = cellNo (x1 (ix3 0 (rowOf i r) l) - x2 (ix3 0 j l)) := by
      intro j l
      rw [← hf]
      unfold k0_pay80 k0_pay79
      rw [hr]
      pointwise []
      rw [er, lit_recip0, lit_cell]
      rfl
    have et : ∀ j l, tt (ix3 r j l) = cell (x1 (ix3 0 (rowOf i r) l) - x2 (ix3 0 j l)) - cellNo (x1 (ix3 0 (rowOf i r) l) - x2 (ix3 0 j l)) := by
      intro j l
      rw [← ht]
      unfold k0_pay81 k0_pay79
      rw [hr, hf]
      pointwise []
      rw [er, ef, lit_recip0, lit_cell]
      rfl
    clear hr hf ht
    rw [pay162_at]
    unfold enBlk energy
    congr 1
    · funext j
      pointwise []
    · funext j l
      unfold_payloads
      pointwise []
      simp only [er, ef, et, lit_2, lit_3, lit_4, lit_5, lit_6, lit_7, lit_8, lit_9, lit_10, lit_11, select_oge]
      rfl
    · funext l
      unfold k0_pay77
      pointwise []
  have hc : ∀ r o, comb (ix2 r o) = feat (fun c => x0 (ix3 0 (rowOf i r) c)) (enBlk i x1 x2 x3 x4 x5 x6 r) (fun k c => xs (ix2 k c)) o := by
    intro r o
    rw [← hC]
    unfold k0_pay164 k0_pay163
    rw [hE]
    clear hE hC
    pointwise []
    simp only [he]
    unfold feat
    refine dite_congr rfl (fun h => ?_) (fun h => rfl)
    exact congrArg (fun q : Fin 256 => x0 (ix3 0 q ⟨o.val, h⟩)) (Fin.ext (congrArg (· + r.val) (congrFun (k0_off2_eq i) 1)))
  clear hC hE
  funext j
  idx_vars j
  show _ = kan (feat (fun c => x0 (ix3 0 (rowOf i j1) c)) (enBlk i x1 x2 x3 x4 x5 x6 j1) (fun k c => xs (ix2 k c)))
    (fun k => x9 (ix2 k j2)) (fun g k => x10 (ix3 g k j2))
  unfold_payloads
  pointwise []
  simp only [named_knot0, named_knot1, named_knot2, named_knot4, named_knot5, named_knot6, named_knot7, named_knot9, named_knot10, named_knot11,
    named_recip2, named_log2e, lit_knot3, lit_recip0, lit_recip1, select_oge, hc, kan, kb, step, ksilu, knot8, Nat.reduceAdd]
  rfl

set_option maxHeartbeats 400000 in
/-- The output block of a point of case A. -/
theorem out_A (c : Dev nD) (i : grid0.Coords) (a2 : Memref sig .tc .vmem S1x256x64 .f32) (h2 : a2.IsWhole) (a3 : Memref sig .tc .vmem S1x256x128 .f32)
    (h3 : a3.IsWhole) (a4 : Memref sig .tc .vmem S1x128x128 .f32) (h4 : a4.IsWhole) (a5 : Memref sig .tc .vmem S1x64x256 .i32) (h5 : a5.IsWhole)
    (a6 : Memref sig .tc .vmem S1x128 .f32) (h6 : a6.IsWhole) (a7 : Memref sig .tc .vmem S1x128 .f32) (h7 : a7.IsWhole)
    (a8 : Memref sig .tc .vmem S52x128 .f32) (h8 : a8.IsWhole) (a9 : Memref sig .tc .vmem S64x64 .f32) (h9 : a9.IsWhole)
    (a10 : Memref sig .tc .vmem S8x64x64 .f32) (h10 : a10.IsWhole) (a11 : Memref sig .tc .vmem S128x64 .f32) (h11 : a11.IsWhole)
    (a12 : Memref sig .tc .vmem S8x128x64 .f32) (h12 : a12.IsWhole) (a13 : Memref sig .tc .vmem S1x64x64 .f32) (h13 : a13.IsWhole)
    (a14 : Memref sig .tc .vmem S256x64 .f32) (h14 : a14.IsWhole) (hc0 : cond0_0 i) (x0 : Vec Ideal S1x256x64 .f32) (x1 : Vec Ideal S1x256x128 .f32)
    (x2 : Vec Ideal S1x128x128 .f32) (x3 : Vec Ideal S1x64x256 .i32) (x4 : Vec Ideal S1x128 .f32) (x5 : Vec Ideal S1x128 .f32)
    (x6 : Vec Ideal S52x128 .f32) (x7 : Vec Ideal S64x64 .f32) (x8 : Vec Ideal S8x64x64 .f32) (x9 : Vec Ideal S128x64 .f32)
    (x10 : Vec Ideal S8x128x64 .f32) :
    out0_A_11 c i a2 h2 a3 h3 a4 h4 a5 h5 a6 h6 a7 h7 a8 h8 a9 h9 a10 h10 a11 h11 a12 h12 a13 h13 a14 h14 hc0 x0 x1 x2 x3 x4 x5 x6 x7 x8 x9 x10
      = blkOut i x0 x1 x2 x3 x4 x5 x6 x9 x10 (msgBlk x0 x7 x8) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 hc0 x0 x1 x2 x3 x4 x5 x6 x7 x8 x9 x10)]
  unfold kernelRun0_A
  dsimp only
  sl_unfold_words
  rw [View.canon_unit_zero hz3]
  simp only [View.readAt_eq_ld, View.readCov_unit_zero (S := S256x64) _ hz2, h2.read_unread, h3.read_unread, h4.read_unread, h5.read_unread, h6.read_unread, h7.read_unread,
    h8.read_unread, h9.read_unread, h10.read_unread, h11.read_unread, h12.read_unread, shapeCast_self]
  unfold k0_pay165 k0_pay166 k0_pay167 k0_pay168
  generalize hE : k0_pay162 (F := Ideal) _ _ _ _ _ _ _ _ _ _ _ _ _ _ _ _ _ = E
  generalize hC : k0_pay164 (F := Ideal) _ _ _ _ = comb
  have he : ∀ r j, E (ix2 r j) = enBlk i x1 x2 x3 x4 x5 x6 r j := by
    intro r j
    rw [← hE]
    clear hE hC
    generalize hr : k0_pay78 (F := Ideal) _ _ = rr
    generalize hf : k0_pay80 (F := Ideal) _ _ = mf
    generalize ht : k0_pay81 (F := Ideal) _ _ = tt
    have er : ∀ j l, rr (ix3 r j l) = x1 (ix3 0 (rowOf i r) l) - x2 (ix3 0 j l) := by
      intro j l
      rw [← hr]
      unfold k0_pay78
      pointwise []
      exact congrArg (fun q : Fin 256 => x1 (ix3 0 q l) - x2 (ix3 0 j l)) (Fin.ext (congrArg (· + r.val) (congrFun (k0_off1_eq i) 1)))
    have ef : ∀ j l, mf (ix3 r j l) = cellNo (x1 (ix3 0 (rowOf i r) l) - x2 (ix3 0 j l)) := by
      intro j l
      rw [← hf]
      unfold k0_pay80 k0_pay79
      rw [hr]
      pointwise []
      rw [er, lit_recip0, lit_cell]
      rfl
    have et : ∀ j l, tt (ix3 r j l) = cell (x1 (ix3 0 (rowOf i r) l) - x2 (ix3 0 j l)) - cellNo (x1 (ix3 0 (rowOf i r) l) - x2 (ix3 0 j l)) := by
      intro j l
      rw [← ht]
      unfold k0_pay81 k0_pay79
      rw [hr, hf]
      pointwise []
      rw [er, ef, lit_recip0, lit_cell]
      rfl
    clear hr hf ht
    rw [pay162_at]
    unfold enBlk energy
    congr 1
    · funext j
      pointwise []
    · funext j l
      unfold_payloads
      pointwise []
      simp only [er, ef, et, lit_2, lit_3, lit_4, lit_5, lit_6, lit_7, lit_8, lit_9, lit_10, lit_11, select_oge]
      rfl
    · funext l
      unfold k0_pay77
      pointwise []
  have hc : ∀ r o, comb (ix2 r o) = feat (fun c => x0 (ix3 0 (rowOf i r) c)) (enBlk i x1 x2 x3 x4 x5 x6 r) (fun k c => (msgBlk x0 x7 x8) (ix2 k c)) o := by
    intro r o
    rw [← hC]
    refine (congrArg (fun s => k0_pay164 (F := Ideal) E _ s _ (ix2 r o)) (?_ : _ = msgBlk x0 x7 x8)).trans ?_
    · clear hE hC he
      funext j
      idx_vars j
      unfold_payloads
      pointwise []
      simp only [named_knot0, named_knot1, named_knot2, named_knot4, named_knot5, named_knot6, named_knot7, named_knot9, named_knot10, named_knot11,
    named_recip2, named_log2e, lit_knot3, lit_recip0, lit_recip1, select_oge,
        msgBlk, kan, kb, step, ksilu, knot8, Nat.reduceAdd]
      rfl
    unfold k0_pay164 k0_pay163
    rw [hE]
    clear hE hC
    pointwise []
    simp only [he]
    unfold feat
    refine dite_congr rfl (fun h => ?_) (fun h => rfl)
    exact congrArg (fun q : Fin 256 => x0 (ix3 0 q ⟨o.val, h⟩)) (Fin.ext (congrArg (· + r.val) (congrFun (k0_off2_eq i) 1)))
  clear hC hE
  funext j
  idx_vars j
  show _ = kan (feat (fun c => x0 (ix3 0 (rowOf i j1) c)) (enBlk i x1 x2 x3 x4 x5 x6 j1) (fun k c => (msgBlk x0 x7 x8) (ix2 k c)))
    (fun k => x9 (ix2 k j2)) (fun g k => x10 (ix3 g k j2))
  unfold_payloads
  pointwise []
  simp only [named_knot0, named_knot1, named_knot2, named_knot4, named_knot5, named_knot6, named_knot7, named_knot9, named_knot10, named_knot11,
    named_recip2, named_log2e, lit_knot3, lit_recip0, lit_recip1, select_oge, hc, kan, kb, step, ksilu, knot8, Nat.reduceAdd]
  rfl

end Cert.KernelIdeal.Value
-- ==== Proof.Net.lean ====
/-
  The network over the reals: what kernel and reference both compute from finite arguments, and the scalar facts that
  carry an expression of extended reals to it.
-/
module

public import proofs.«01_k».proof.Proof.Scalar

@[expose] public section

noncomputable section

namespace Cert.Kan

open Idealize.ShloMosaic Idealize.ShloMosaic.TcCoe

/-- The argument arrays of the network as real numbers, the adjacency as words. -/
structure Net where
  x : Fin 2 → Fin 256 → Fin 64 → ℝ
  adj : Fin 2 → Fin 256 → Fin 256 → BitVec 32
  fb : Fin 64 → ℝ
  fs : Fin 64 → Fin 8 → ℝ
  fc : Fin 64 → ℝ
  mb : Fin 64 → Fin 64 → ℝ
  ms : Fin 64 → Fin 64 → Fin 8 → ℝ
  mc : Fin 64 → Fin 64 → ℝ
  ub : Fin 64 → Fin 128 → ℝ
  us : Fin 64 → Fin 128 → Fin 8 → ℝ
  uc : Fin 64 → Fin 128 → ℝ

/-- One output of a layer: the silu of the inputs against the base weights, the basis functions against the spline weights. -/
def layer {D : ℕ} (v wb : Fin D → ℝ) (ws : Fin D → Fin 8 → ℝ) : ℝ :=
  (∑ c, silu (v c) * wb c) + ∑ c, ∑ g : Fin 8, B 3 g.val (v c) * ws c g

/-- The softmax of a row. -/
def softmax (e : Fin 256 → ℝ) (j : Fin 256) : ℝ := Real.exp (e j) / ∑ k, Real.exp (e k)

namespace Net

variable (N : Net)

/-- The energy of a pair of nodes: the edge layer at the difference of their features, a large negative number off the graph. -/
def energy (b : Fin 2) (i j : Fin 256) : ℝ :=
  if N.adj b i j = 0#32 then -1000000000 else layer (fun c => N.x b i c - N.x b j c) N.fb (fun c g => N.fs c g * N.fc c)

/-- The message of a node. -/
def msg (b : Fin 2) (n : Fin 256) (o : Fin 64) : ℝ := layer (N.x b n) (N.mb o) (fun c g => N.ms o c g * N.mc o c)

/-- A node's features and the messages it gathers. -/
def feat (b : Fin 2) (n : Fin 256) (k : Fin 128) : ℝ :=
  if h : k.val < 64 then N.x b n ⟨k.val, h⟩ else ∑ j, softmax (N.energy b n) j * N.msg b j ⟨k.val - 64, by omega⟩

/-- The network's output. -/
def out (b : Fin 2) (n : Fin 256) (o : Fin 64) : ℝ := layer (N.feat b n) (N.ub o) (fun c g => N.us o c g * N.uc o c)

/-- The argument arrays hold the network's numbers. -/
structure Of (a0 : FVec Ideal ⟨3, ![2, 256, 64]⟩ .f32) (a1 : IVec ⟨3, ![2, 256, 256]⟩ 32) (a2 : FVec Ideal ⟨2, ![1, 64]⟩ .f32)
    (a3 : FVec Ideal ⟨3, ![1, 64, 8]⟩ .f32) (a4 : FVec Ideal ⟨2, ![1, 64]⟩ .f32) (a5 : FVec Ideal ⟨2, ![64, 64]⟩ .f32)
    (a6 : FVec Ideal ⟨3, ![64, 64, 8]⟩ .f32) (a7 : FVec Ideal ⟨2, ![64, 64]⟩ .f32) (a8 : FVec Ideal ⟨2, ![64, 128]⟩ .f32)
    (a9 : FVec Ideal ⟨3, ![64, 128, 8]⟩ .f32) (a10 : FVec Ideal ⟨2, ![64, 128]⟩ .f32) : Prop where
  x : ∀ b n k, a0 (ix3 b n k) = (N.x b n k : EReal)
  adj : ∀ b i j, a1 (ix3 b i j) = N.adj b i j
  fb : ∀ c, a2 (ix2 0 c) = (N.fb c : EReal)
  fs : ∀ c g, a3 (ix3 0 c g) = (N.fs c g : EReal)
  fc : ∀ c, a4 (ix2 0 c) = (N.fc c : EReal)
  mb : ∀ o c, a5 (ix2 o c) = (N.mb o c : EReal)
  ms : ∀ o c g, a6 (ix3 o c g) = (N.ms o c g : EReal)
  mc : ∀ o c, a7 (ix2 o c) = (N.mc o c : EReal)
  ub : ∀ o c, a8 (ix2 o c) = (N.ub o c : EReal)
  us : ∀ o c g, a9 (ix3 o c g) = (N.us o c g : EReal)
  uc : ∀ o c, a10 (ix2 o c) = (N.uc o c : EReal)

end Net

/-- The maximum of a nonempty row of reals, taken from minus infinity, is real. -/
theorem fold_max_real (e : Fin 256 → ℝ) : ∃ M : ℝ, Finset.fold max (⊥ : EReal) (fun k => (e k : EReal)) Finset.univ = (M : EReal) := by
  classical
  have h : ∀ s : Finset (Fin 256), (s = ∅ ∨ ∃ M : ℝ, Finset.fold max (⊥ : EReal) (fun k => (e k : EReal)) s = (M : EReal)) := by
    intro s
    induction s using Finset.induction_on with
    | empty => exact Or.inl rfl
    | insert a s ha ih =>
      right
      rw [Finset.fold_insert ha]
      rcases ih with rfl | ⟨M, hM⟩
      · exact ⟨e a, by rw [Finset.fold_empty]; exact max_bot_right _⟩
      · refine ⟨max (e a) M, ?_⟩
        rw [hM]
        exact (EReal.coe_strictMono.monotone.map_max).symm
  exact (h Finset.univ).resolve_left (Finset.univ_nonempty.ne_empty)

/-- A softmax weight computed after subtracting any real number from the row. -/
theorem weight_coe (e : Fin 256 → ℝ) (M : ℝ) (j : Fin 256) :
    Ideal.div (Ideal.exp ((e j : EReal) - (M : EReal))) (∑ k, Ideal.exp ((e k : EReal) - (M : EReal))) = (softmax e j : EReal) := by
  have h1 : ∀ k, Ideal.exp ((e k : EReal) - (M : EReal)) = ((Real.exp (e k - M) : ℝ) : EReal) := by
    intro k
    rw [← EReal.coe_sub]
    rfl
  simp only [h1]
  have hp : ∀ k, (0:ℝ) < Real.exp (e k - M) := fun k => Real.exp_pos _
  have hs : (0:ℝ) < ∑ k, Real.exp (e k - M) := Finset.sum_pos (fun k _ => hp k) Finset.univ_nonempty
  have hs' : (0:ℝ) < ∑ k, Real.exp (e k) := Finset.sum_pos (fun k _ => Real.exp_pos _) Finset.univ_nonempty
  rw [sum_coe, div_real _ hs.ne']
  congr 1
  unfold softmax
  have h2 : ∑ k, Real.exp (e k - M) = (∑ k, Real.exp (e k)) / Real.exp M := by
    rw [Finset.sum_div]; exact Finset.sum_congr rfl fun k _ => Real.exp_sub _ _
  rw [h2, Real.exp_sub]
  have hM := (Real.exp_pos M).ne'
  field_simp

/-- A layer in extended reals, the basis functions against the weights in one double sum. -/
theorem layer_coe {D : ℕ} (v wb : Fin D → ℝ) (ws : Fin D → Fin 8 → ℝ) :
    (∑ c, (silu (v c) : EReal) * (wb c : EReal)) + (∑ c, ∑ g : Fin 8, (B 3 g.val (v c) : EReal) * (ws c g : EReal))
      = (layer v wb ws : EReal) := by
  unfold layer
  simp only [← EReal.coe_mul, sum_coe, ← EReal.coe_add]

end Cert.Kan
-- ==== Proof.Energy.lean ====
/-
  The energies of the kernel over real arguments: the cubic of a cell is the sum of the basis functions, and the sum and
  signed sum of the lanes are the two halves of a row.
-/
module

public import proofs.«01_k».proof.Proof.Block
public import proofs.«01_k».proof.Proof.Net

@[expose] public section

set_option maxRecDepth 16384
noncomputable section

open Idealize.ShloMosaic Idealize.ShloMosaic.TcCoe

namespace Cert.KernelIdeal.Value

open Cert.KernelIdeal Cert.Kan

/-- The tree of comparisons picks the entry after the cell number, within the table. -/
theorem pick_coe (z : ℤ) (a : ℕ → EReal) :
    pick ((z : ℝ) : EReal) a = if z < 0 then a 0 else if 11 ≤ z then a 12 else a (z.toNat + 1) := by
  unfold pick
  have h : ∀ (t : ℝ) (n : ℤ), t = n → ∀ u v : EReal, (if (t : EReal) ≤ ((z : ℝ) : EReal) then u else v) = if n ≤ z then u else v := by
    rintro _ n rfl u v
    by_cases hn : n ≤ z
    · rw [if_pos hn, if_pos (by exact_mod_cast hn)]
    · rw [if_neg hn, if_neg (by rw [EReal.coe_le_coe_iff]; exact_mod_cast hn)]
  dsimp only
  simp only [h 0 0 (by norm_num), h 1 1 (by norm_num), h 2 2 (by norm_num), h 3 3 (by norm_num), h 4 4 (by norm_num),
    h 5 5 (by norm_num), h 6 6 (by norm_num), h 7 7 (by norm_num), h 8 8 (by norm_num), h 9 9 (by norm_num),
    h 10 10 (by norm_num), h 11 11 (by norm_num)]
  by_cases hz : z < 0
  · rw [if_pos hz]
    repeat (rw [if_neg (by omega)])
  · rw [if_neg hz]
    by_cases hy : 11 ≤ z
    · rw [if_pos hy]
      repeat (rw [if_pos (by omega)])
    · rw [if_neg hy]
      have hz' : 0 ≤ z := not_lt.mp hz
      have hy' : z < 11 := not_le.mp hy
      interval_cases z <;> simp

/-- One channel's part of an energy. -/
def chan (fb : ℝ) (w : Fin 8 → ℝ) (r : ℝ) : ℝ := silu r * fb + ∑ g : Fin 8, B 3 g.val r * w g

/-- The table of halved coefficients: entry `p` is the cubic of piece `p - 1`, the ends are zero. -/
def tab (w : Fin 8 → ℝ) (d p : ℕ) : ℝ := if 1 ≤ p ∧ p ≤ 11 then ∑ g : Fin 8, (coef (p - 1) g.val d : ℝ) / 12 * w g else 0

/-- A lane is half a channel's part of the energy. -/
theorem lane_coe (T : ℕ → EReal) (w : Fin 8 → ℝ) (fb r : ℝ) (hT : ∀ s p : ℕ, s < 4 → p < 13 → T (13 * s + p) = (tab w (3 - s) p : EReal)) :
    lane T ((fb * (1 / 2) : ℝ) : EReal) (r : EReal) = ((chan fb w r / 2 : ℝ) : EReal) := by
  have hc : cell (r : EReal) = ((r * recip 0 - (-11 / 2) : ℝ) : EReal) := by
    unfold cell; rw [← EReal.coe_mul, ← EReal.coe_sub]
  obtain ⟨z, hz⟩ : ∃ z : ℤ, z = ⌊r * recip 0 - (-11 / 2)⌋ := ⟨_, rfl⟩
  have hn : cellNo (r : EReal) = ((z : ℝ) : EReal) := by
    unfold cellNo; rw [hc, hz]; rfl
  have hr0 : recip 0 = 5 / 2 := by norm_num [recip]
  have hlo := Int.floor_le (r * recip 0 - (-11 / 2))
  have hhi := Int.lt_floor_add_one (r * recip 0 - (-11 / 2))
  rw [← hz] at hlo hhi
  rw [hr0] at hlo hhi
  have hk : ∀ n : ℕ, knot n = 2 / 5 * ((n : ℝ) - 3) - 1 := fun n => rfl
  unfold lane
  rw [hn, hc, hr0, ksilu_coe]
  simp only [pick_coe]
  obtain ⟨t, ht⟩ : ∃ t : ℝ, t = r * (5 / 2) - (-11 / 2) - z := ⟨_, rfl⟩
  rw [← EReal.coe_sub, ← ht]
  have key : ∀ p : ℕ, p < 13 → (∀ d, tab w d p = if 1 ≤ p ∧ p ≤ 11 then ∑ g : Fin 8, (coef (p - 1) g.val d : ℝ) / 12 * w g else 0) →
      ((tab w 3 p * t + tab w 2 p) * t + tab w 1 p) * t + tab w 0 p = (∑ g : Fin 8, B 3 g.val r * w g) / 2 →
      ((((T p * (t : EReal) + T (13 + p)) * (t : EReal) + T (26 + p)) * (t : EReal) + T (39 + p))
        + (silu r : EReal) * ((fb * (1 / 2) : ℝ) : EReal)) = ((chan fb w r / 2 : ℝ) : EReal) := by
    intro p hp _ hv
    have h0 := hT 0 p (by norm_num) hp
    have h1 := hT 1 p (by norm_num) hp
    have h2 := hT 2 p (by norm_num) hp
    have h3 := hT 3 p (by norm_num) hp
    simp only [mul_zero, zero_add, mul_one, Nat.reduceMul, Nat.reduceSub, Nat.sub_zero] at h0 h1 h2 h3
    rw [h0, h1, h2, h3]
    simp only [← EReal.coe_mul, ← EReal.coe_add]
    rw [hv]
    congr 1
    unfold chan
    ring
  have hout : r < knot 0 ∨ knot 11 ≤ r → (∑ g : Fin 8, B 3 g.val r * w g) = 0 := fun h =>
    Finset.sum_eq_zero fun g _ => by rw [B_out h g.val g.isLt, zero_mul]
  by_cases hz0 : z < 0
  · simp only [if_pos hz0]
    have hz0' : (z : ℝ) ≤ -1 := by exact_mod_cast (by omega : z ≤ -1)
    refine key 0 (by norm_num) (fun _ => rfl) ?_
    rw [hout (Or.inl (by rw [hk]; push_cast; linarith))]
    simp [tab]
  · simp only [if_neg hz0]
    by_cases hz1 : 11 ≤ z
    · simp only [if_pos hz1]
      have hz1' : (11 : ℝ) ≤ z := by exact_mod_cast hz1
      refine key 12 (by norm_num) (fun _ => rfl) ?_
      rw [hout (Or.inr (by rw [hk]; push_cast; linarith))]
      simp [tab]
    · simp only [if_neg hz1]
      obtain ⟨m, rfl⟩ : ∃ m : ℕ, z = m := ⟨z.toNat, by omega⟩
      have hm : m < 11 := by omega
      rw [Int.toNat_natCast]
      refine key (m + 1) (by omega) (fun _ => rfl) ?_
      have hx : r = knot m + 2 / 5 * t := by rw [hk, ht]; push_cast; ring
      have hin : knot m ≤ r ∧ r < knot (m + 1) := by
        rw [hk, hk]; push_cast at hlo hhi ⊢; constructor <;> linarith
      simp only [tab, if_pos (show 1 ≤ m + 1 ∧ m + 1 ≤ 11 by omega), Nat.add_sub_cancel]
      rw [Finset.sum_div]
      simp only [Finset.sum_mul, ← Finset.sum_add_distrib]
      refine Finset.sum_congr rfl fun g _ => ?_
      rw [B_piece hx hin g.val]
      ring

/-- The channel of a lane. -/
def chOf (l : Fin 128) : Fin 64 := ⟨l.val % 64, by omega⟩

/-- The parts of the channels add up to the layer. -/
theorem sum_chan (v fb : Fin 64 → ℝ) (w : Fin 64 → Fin 8 → ℝ) : ∑ c, chan (fb c) (w c) (v c) = layer v fb w := by
  unfold chan layer
  rw [Finset.sum_add_distrib]

/-- The sum of the lanes of a pair, and the signed sum, from the sums over the two sets of channels. -/
theorem lanes_sum (a b : Fin 64 → ℝ) (f s : Fin 128 → EReal)
    (hf : ∀ l, f l = ((if h : l.val < 64 then a ⟨l.val, h⟩ / 2 else b ⟨l.val - 64, by omega⟩ / 2 : ℝ) : EReal))
    (hs : ∀ l, s l = ((if l.val < 64 then 1 else -1 : ℝ) : EReal)) :
    (∑ l, f l) = (((∑ c, a c) / 2 + (∑ c, b c) / 2 : ℝ) : EReal)
      ∧ (∑ l, f l * s l) = (((∑ c, a c) / 2 - (∑ c, b c) / 2 : ℝ) : EReal) := by
  have hl : ∀ c : Fin 64, ((Fin.castAdd 64 c : Fin 128)).val < 64 := fun c => c.isLt
  have hg : ∀ c : Fin 64, ¬ ((Fin.natAdd 64 c : Fin 128)).val < 64 := fun c => by rw [Fin.val_natAdd]; omega
  have hm : ∀ c : Fin 64, ((Fin.natAdd 64 c : Fin 128)).val - 64 = c.val := fun c => by rw [Fin.val_natAdd]; omega
  constructor
  · simp only [hf, sum_coe]
    congr 1
    rw [Fin.sum_univ_add (a := 64) (b := 64) (fun l : Fin (64 + 64) => (if h : l.val < 64 then a ⟨l.val, h⟩ / 2 else b ⟨l.val - 64, by omega⟩ / 2 : ℝ)),
      Finset.sum_div, Finset.sum_div]
    congr 1
  · simp only [hf, hs, ← EReal.coe_mul, sum_coe]
    congr 1
    rw [Fin.sum_univ_add (a := 64) (b := 64) (fun l : Fin (64 + 64) => ((if h : l.val < 64 then a ⟨l.val, h⟩ / 2 else b ⟨l.val - 64, by omega⟩ / 2)
        * (if l.val < 64 then 1 else -1) : ℝ)),
      Finset.sum_div, Finset.sum_div, sub_eq_add_neg, ← Finset.sum_neg_distrib]
    congr 1
    · refine Finset.sum_congr rfl fun c _ => ?_
      rw [dif_pos (hl c), if_pos (hl c), mul_one]
      rfl
    · refine Finset.sum_congr rfl fun c _ => ?_
      rw [dif_neg (hg c), if_neg (hg c), mul_neg, mul_one]
      exact congrArg (fun z => -(b z / 2)) (Fin.ext (hm c))

/-- The energy off the graph. -/
theorem lit_off : Ideal.ofBits .f32 0xCE6E6B28#32 = ((-1000000000 : ℝ) : EReal) := by
  simp [Ideal.ofBits, Ideal.ieee, -EReal.coe_mul]; norm_num

/-- The kernel's row of energies at real arguments is the network's. -/
theorem energy_coe (N : Net) (b : Fin 2) (i : Fin 256) (adj : Fin 256 → BitVec 32) (xi : Fin 128 → EReal) (x2 : Fin 128 → Fin 128 → EReal)
    (T : ℕ → Fin 128 → EReal) (w sgn : Fin 128 → EReal) (hadj : ∀ j, adj j = N.adj b i j) (hxi : ∀ l, xi l = (N.x b i (chOf l) : EReal))
    (hx2 : ∀ (j : Fin 128) (l : Fin 128), x2 j l
      = ((if l.val < 64 then N.x b ⟨j.val, by omega⟩ (chOf l) else N.x b ⟨j.val + 128, by omega⟩ (chOf l) : ℝ) : EReal))
    (hT : ∀ s p : ℕ, s < 4 → p < 13 → ∀ l, T (13 * s + p) l = (tab (fun g => N.fs (chOf l) g * N.fc (chOf l)) (3 - s) p : EReal))
    (hw : ∀ l, w l = ((N.fb (chOf l) * (1 / 2) : ℝ) : EReal)) (hs : ∀ l, sgn l = ((if l.val < 64 then 1 else -1 : ℝ) : EReal))
    (j : Fin 256) : energy adj xi x2 T w sgn j = (N.energy b i j : EReal) := by
  have hlane : ∀ (jj : Fin 128) (l : Fin 128), lane (fun p => T p l) (w l) (xi l - x2 jj l)
      = ((if h : l.val < 64 then chan (N.fb ⟨l.val, h⟩) (fun g => N.fs ⟨l.val, h⟩ g * N.fc ⟨l.val, h⟩)
            (N.x b i ⟨l.val, h⟩ - N.x b ⟨jj.val, by omega⟩ ⟨l.val, h⟩) / 2
          else chan (N.fb ⟨l.val - 64, by omega⟩) (fun g => N.fs ⟨l.val - 64, by omega⟩ g * N.fc ⟨l.val - 64, by omega⟩)
            (N.x b i ⟨l.val - 64, by omega⟩ - N.x b ⟨jj.val + 128, by omega⟩ ⟨l.val - 64, by omega⟩) / 2 : ℝ) : EReal) := by
    intro jj l
    rw [hw, hxi, hx2, ← EReal.coe_sub, lane_coe _ (fun g => N.fs (chOf l) g * N.fc (chOf l)) _ _ (fun s p h1 h2 => hT s p h1 h2 l)]
    congr 1
    by_cases h : l.val < 64
    · have hc : chOf l = ⟨l.val, h⟩ := Fin.ext (Nat.mod_eq_of_lt h)
      rw [dif_pos h, if_pos h, hc]
    · have hc : chOf l = ⟨l.val - 64, by omega⟩ := Fin.ext (show l.val % 64 = l.val - 64 by omega)
      rw [dif_neg h, if_neg h, hc]
  have hsum := fun jj : Fin 128 => lanes_sum
    (fun c => chan (N.fb c) (fun g => N.fs c g * N.fc c) (N.x b i c - N.x b ⟨jj.val, by omega⟩ c))
    (fun c => chan (N.fb c) (fun g => N.fs c g * N.fc c) (N.x b i c - N.x b ⟨jj.val + 128, by omega⟩ c)) _ sgn (hlane jj) hs
  unfold energy halves Net.energy
  rw [hadj, lit_off]
  have hsel : ∀ (u : BitVec 32) (x y : EReal), Scalar.select (IntOp.cmpi .eq u 0#32) x y = if u = 0#32 then x else y := by
    intro u x y
    by_cases hu : u = 0#32
    · rw [if_pos hu, hu]; rfl
    · have hb : (u == 0#32) = false := beq_eq_false_iff_ne.mpr hu
      rw [if_neg hu]; simp [Scalar.select, IntOp.cmpi, hb]
  rw [hsel]
  by_cases ha : N.adj b i j = 0#32
  · rw [if_pos ha, if_pos ha]
  · rw [if_neg ha, if_neg ha, ← sum_chan]
    by_cases h : j.val < 128
    · rw [dif_pos h, (hsum ⟨j.val, h⟩).1, (hsum ⟨j.val, h⟩).2, ← EReal.coe_add]
      congr 1
      ring
    · rw [dif_neg h, (hsum ⟨j.val - 128, by omega⟩).1, (hsum ⟨j.val - 128, by omega⟩).2, ← EReal.coe_sub]
      have hj : (⟨j.val - 128 + 128, by omega⟩ : Fin 256) = j := Fin.ext (show j.val - 128 + 128 = j.val by omega)
      congr 1
      simp only [hj]
      ring

/-- The kernel's layer at real arguments is the network's. -/
theorem kan_coe {D : ℕ} (v wb : Fin D → ℝ) (ws : Fin D → Fin 8 → ℝ) (v' wb' : Fin D → EReal) (ws' : Fin 8 → Fin D → EReal)
    (hv : ∀ c, v' c = (v c : EReal)) (hb : ∀ c, wb' c = (wb c : EReal)) (hs : ∀ g c, ws' g c = (ws c g : EReal)) :
    kan v' wb' ws' = (layer v wb ws : EReal) := by
  unfold kan layer
  simp only [hv, hb, hs, ksilu_coe, kb_coe, ← EReal.coe_mul, sum_coe, ← EReal.coe_add]
  congr 1
  rw [Finset.sum_comm, Fin.sum_univ_eight]
  simp only [← add_assoc]
  rfl

/-- The kernel's softmax weights at real energies are the network's. -/
theorem weight_real (e : Fin 256 → EReal) (e' : Fin 256 → ℝ) (he : ∀ j, e j = (e' j : EReal)) (j : Fin 256) :
    weight e j = (softmax e' j : EReal) := by
  obtain rfl : e = fun j => (e' j : EReal) := funext he
  obtain ⟨M, hM⟩ := fold_max_real e'
  have hr : rowMax (fun j => (e' j : EReal)) = (M : EReal) := by
    unfold rowMax
    rw [← hM, show Ideal.ofBits .f32 0xFF800000#32 = (⊥ : EReal) by simp [Ideal.ofBits, Ideal.ieee]]
  unfold weight
  rw [hr]
  exact weight_coe e' M j

end Cert.KernelIdeal.Value
-- ==== Proof.Host.lean ====
/-
  What the kernel's host operations leave in the arrays its windows read.
-/
module

public import proofs.«01_k».proof.Proof.Gen.KernelIdeal.Value
public import proofs.«01_k».proof.Proof.Energy
public import Idealize.ShloMosaic.Lib.Pipeline.ValueKit
public import Idealize.ShloMosaic.Lib.StableHlo.RunRead

@[expose] public section

set_option maxRecDepth 16384
noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Kan

/-- The integer a word of the piece table stands for. -/
def tableVal (w : BitVec 32) : ℤ :=
  if w = 0x3F800000#32 then 1 else if w = 0x40400000#32 then 3 else if w = 0xC0400000#32 then -3
  else if w = 0xC0C00000#32 then -6 else if w = 0x40800000#32 then 4 else if w = 0xBF800000#32 then -1 else 0

/-- The words of the piece table. -/
def tableWords : List (BitVec 32) :=
  [0x00000000#32, 0x80000000#32, 0x3F800000#32, 0x40400000#32, 0xC0400000#32, 0xC0C00000#32, 0x40800000#32, 0xBF800000#32]

/-- The table's word at piece `m`, basis function `g`, power `d` stands for `coef m g d`. -/
theorem table_coef : ∀ (m : Fin 11) (g : Fin 8) (d : Fin 4),
    tableVal (lit0 (S11x8x4.rowMajor (ix3 m g d))) = coef m.val g.val d.val
      ∧ lit0 (S11x8x4.rowMajor (ix3 m g d)) ∈ tableWords := by
  decide +kernel

/-- A word of the table reads as the integer it stands for. -/
theorem word_val (w : BitVec 32) (hw : w ∈ tableWords) : Ideal.ofBits .f32 w = ((tableVal w : ℝ) : EReal) := by
  simp only [tableWords, List.mem_cons, List.not_mem_nil, or_false] at hw
  rcases hw with rfl | rfl | rfl | rfl | rfl | rfl | rfl | rfl <;>
    (simp [Ideal.ofBits, Ideal.ieee, tableVal, -EReal.coe_mul]; try norm_num)
/-- The divisor of the table. -/
theorem lit_12 : Ideal.ofBits .f32 0x41400000#32 = ((12 : ℝ) : EReal) := by
  simp [Ideal.ofBits, Ideal.ieee, -EReal.coe_mul]; norm_num
/-- The rows of the stacked table for power 3. -/
theorem part_v33 (W : Valuation τ sig (Elt Ideal)) (q : Fin 13) (l : Fin 128) :
    StableHlo.upto hostOps0_2 W 8 (Proc.devRef .tc main_v33) (ix2 q l) = W (Proc.devRef .tc main_v31) (ix3 3 q l) := by
  simp only [hostOps0_2, StableHlo.upto, List.take]
  after_results
  pointwise []

/-- The rows of the stacked table for power 2. -/
theorem part_v35 (W : Valuation τ sig (Elt Ideal)) (q : Fin 13) (l : Fin 128) :
    StableHlo.upto hostOps0_2 W 8 (Proc.devRef .tc main_v35) (ix2 q l) = W (Proc.devRef .tc main_v31) (ix3 2 q l) := by
  simp only [hostOps0_2, StableHlo.upto, List.take]
  after_results
  pointwise []

/-- The rows of the stacked table for power 1. -/
theorem part_v37 (W : Valuation τ sig (Elt Ideal)) (q : Fin 13) (l : Fin 128) :
    StableHlo.upto hostOps0_2 W 8 (Proc.devRef .tc main_v37) (ix2 q l) = W (Proc.devRef .tc main_v31) (ix3 1 q l) := by
  simp only [hostOps0_2, StableHlo.upto, List.take]
  after_results
  pointwise []

/-- The rows of the stacked table for power 0. -/
theorem part_v39 (W : Valuation τ sig (Elt Ideal)) (q : Fin 13) (l : Fin 128) :
    StableHlo.upto hostOps0_2 W 8 (Proc.devRef .tc main_v39) (ix2 q l) = W (Proc.devRef .tc main_v31) (ix3 0 q l) := by
  simp only [hostOps0_2, StableHlo.upto, List.take]
  after_results
  pointwise []

/-- The stacked table holds the powers in descending order, thirteen rows each. -/
theorem tail_v40 (W : Valuation τ sig (Elt Ideal)) (s p : ℕ) (hs : s < 4) (hp : p < 13) (q : Fin 52) (hq : q.val = 13 * s + p) (l : Fin 128) :
    StableHlo.after hostOps0_2 W (Proc.devRef .tc main_v40) (ix2 q l)
      = W (Proc.devRef .tc main_v31) (ix3 ⟨3 - s, by omega⟩ ⟨p, hp⟩ l) := by
  rw [StableHlo.after_last_write (i := 8) [main_v41, main_v42, main_v43, main_v44, main_v45, main_v46, main_v47, main_v48, main_v49, main_v50]
    rfl rfl (by decide) W]
  rw [StableHlo.nary4_result]
  have e33 := part_v33 W
  have e35 := part_v35 W
  have e37 := part_v37 W
  have e39 := part_v39 W
  generalize h33 : StableHlo.upto hostOps0_2 W 8 = U at e33 e35 e37 e39 ⊢
  pointwise []
  obtain rfl | rfl | rfl | rfl : s = 0 ∨ s = 1 ∨ s = 2 ∨ s = 3 := by omega
  · refine (dif_pos (by omega)).trans ((e33 _ _).trans ?_)
    congr 2
    exact Fin.ext (by show q.val = p; omega)
  · refine (dif_neg (by omega)).trans ((dif_pos (by omega)).trans ((e35 _ _).trans ?_))
    congr 2
    exact Fin.ext (by show q.val - 13 = p; omega)
  · refine (dif_neg (by omega)).trans ((dif_neg (by omega)).trans ((dif_pos (by omega)).trans ((e37 _ _).trans ?_)))
    congr 2
    exact Fin.ext (by show q.val - 13 - 13 = p; omega)
  · refine (dif_neg (by omega)).trans ((dif_neg (by omega)).trans ((dif_neg (by omega)).trans ((e39 _ _).trans ?_)))
    congr 2
    exact Fin.ext (by show q.val - 13 - 13 - 13 = p; omega)

/-- The padded table: the pieces' coefficients, a row of the padding before and after. -/
theorem mid_v31 (W : Valuation τ sig (Elt Ideal)) (d : Fin 4) (p : Fin 13) (l : Fin 128)
    (hc : W (Proc.devRef .tc main_c) = constantI S_ 32 0#32) :
    StableHlo.after hostOps0_1 W (Proc.devRef .tc main_v31) (ix3 d p l)
      = if h : 1 ≤ p.val ∧ p.val - 1 < 11 then W (Proc.devRef .tc main_v30) (ix3 d ⟨p.val - 1, h.2⟩ l) else (0 : EReal) := by
  simp only [hostOps0_1]
  entry_read
  change pad S4x13x128 ![0, 1, 0] ![0, 1, 0] ![0, 0, 0] (show FVec Ideal S4x11x128 .f32 from W (Proc.tc.devRef main_v30))
    (sitofp FTy.f32 (show IVec S_ 32 from W (Proc.tc.devRef main_c))) pads_S4x11x128_S4x13x128_000_110_000 h_S_ (ix3 d p l) = _
  pointwise []
  rw [hc]
  by_cases h : 1 ≤ p.val ∧ p.val - 1 < 11
  · rw [dif_pos h, dif_pos h]
  · rw [dif_neg h, dif_neg h]
    show ((((0#32 : BitVec 32).toInt : ℝ)) : EReal) = 0
    simp

/-- The host's padding word. -/
theorem head_c (W : Valuation τ sig (Elt Ideal)) : StableHlo.after hostOps0 W (Proc.devRef .tc main_c) = constantI S_ 32 0#32 := by
  simp only [hostOps0]
  after_results

/-- The pieces' coefficients: the table against the edge layer's spline weights. -/
theorem head_v30 (W : Valuation τ sig (Elt Ideal)) (d : Fin 4) (p : Fin 11) (l : Fin 128) :
    StableHlo.after hostOps0 W (Proc.devRef .tc main_v30) (ix3 d p l)
      = ∑ g : Fin 8, Ideal.div (Ideal.ofBits .f32 (lit0 (S11x8x4.rowMajor (ix3 p g d)))) (Ideal.ofBits .f32 0x41400000#32)
          * ((show FVec Ideal S1x64x8 .f32 from W (Proc.devRef .tc main_arg3)) (ix3 0 (chOf l) g)
              * (show FVec Ideal S1x64 .f32 from W (Proc.devRef .tc main_arg4)) (ix2 0 (chOf l))) := by
  simp only [hostOps0]
  after_results
  pointwise []
  rfl

/-- A line of host operations in two parts. -/
theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

section Entry
variable (m : (ℓ : Loc nD τ sig) → Buf (Elt Ideal) ℓ) (c : Dev nD)

/-- The features, repeated over the two sets of lanes. -/
theorem v_2 (b : Fin 2) (i : Fin 256) (l : Fin 128) :
    V m c main_v2 (ix3 b i l) = m ((c : Thread nD τ).loc main_arg0) (ix3 b i (chOf l)) := by
  simp only [V, hostOps0, hostOps0_1, hostOps0_2, List.flatten_cons, List.flatten_nil, List.append_nil, List.cons_append, List.nil_append]
  entry_read
  pointwise []
  rfl

/-- The two halves of the nodes side by side. -/
theorem v_5 (b : Fin 2) (j : Fin 128) (l : Fin 128) :
    V m c main_v5 (ix3 b j l) = if l.val < 64 then m ((c : Thread nD τ).loc main_arg0) (ix3 b ⟨j.val, by omega⟩ (chOf l))
      else m ((c : Thread nD τ).loc main_arg0) (ix3 b ⟨j.val + 128, by omega⟩ (chOf l)) := by
  simp only [V, hostOps0, hostOps0_1, hostOps0_2, List.flatten_cons, List.flatten_nil, List.append_nil, List.cons_append, List.nil_append]
  entry_read
  pointwise []
  by_cases h : l.val < 64
  · rw [dif_pos h, if_pos h]
    have hc : chOf l = ⟨l.val, h⟩ := Fin.ext (Nat.mod_eq_of_lt h)
    rw [hc]
  · rw [dif_neg h, if_neg h]
    have hc : chOf l = ⟨l.val - 64, by omega⟩ := Fin.ext (show l.val % 64 = l.val - 64 by omega)
    rw [hc]
    have hj : (⟨j.val + 128, by omega⟩ : Fin 256) = ⟨128 + j.val, by omega⟩ := Fin.ext (Nat.add_comm _ _)
    rw [hj]

/-- Half the edge layer's base weights. -/
theorem v_17 (l : Fin 128) :
    V m c main_v17 (ix2 0 l) = (show FVec Ideal S1x64 .f32 from m ((c : Thread nD τ).loc main_arg2)) (ix2 0 (chOf l)) * Ideal.ofBits .f32 0x3F000000#32 := by
  simp only [V, hostOps0, hostOps0_1, hostOps0_2, List.flatten_cons, List.flatten_nil, List.append_nil, List.cons_append, List.nil_append]
  entry_read
  pointwise []
  rfl

/-- The lanes' signs. -/
theorem v_21 (l : Fin 128) : V m c main_v21 (ix2 0 l) = ((if l.val < 64 then 1 else -1 : ℝ) : EReal) := by
  simp only [V, hostOps0, hostOps0_1, hostOps0_2, List.flatten_cons, List.flatten_nil, List.append_nil, List.cons_append, List.nil_append]
  entry_read
  pointwise []
  by_cases h : l.val < 64
  · rw [dif_pos h, if_pos h]; rfl
  · rw [dif_neg h, if_neg h]; rfl

/-- The message layer's base weights, transposed. -/
theorem v_49 (k o : Fin 64) : V m c main_v49 (ix2 k o) = m ((c : Thread nD τ).loc main_arg5) (ix2 o k) := by
  simp only [V, hostOps0, hostOps0_1, hostOps0_2, List.flatten_cons, List.flatten_nil, List.append_nil, List.cons_append, List.nil_append]
  entry_read
  pointwise []

/-- The message layer's scaled spline weights. -/
theorem v_44 (g : Fin 8) (k o : Fin 64) :
    V m c main_v44 (ix3 g k o) = (show FVec Ideal S64x64x8 .f32 from m ((c : Thread nD τ).loc main_arg6)) (ix3 o k g)
      * (show FVec Ideal S64x64 .f32 from m ((c : Thread nD τ).loc main_arg7)) (ix2 o k) := by
  simp only [V, hostOps0, hostOps0_1, hostOps0_2, List.flatten_cons, List.flatten_nil, List.append_nil, List.cons_append, List.nil_append]
  entry_read
  pointwise []

/-- The update layer's base weights, transposed. -/
theorem v_50 (k : Fin 128) (o : Fin 64) : V m c main_v50 (ix2 k o) = m ((c : Thread nD τ).loc main_arg8) (ix2 o k) := by
  simp only [V, hostOps0, hostOps0_1, hostOps0_2, List.flatten_cons, List.flatten_nil, List.append_nil, List.cons_append, List.nil_append]
  entry_read
  pointwise []

/-- The update layer's scaled spline weights. -/
theorem v_48 (g : Fin 8) (k : Fin 128) (o : Fin 64) :
    V m c main_v48 (ix3 g k o) = (show FVec Ideal S64x128x8 .f32 from m ((c : Thread nD τ).loc main_arg9)) (ix3 o k g)
      * (show FVec Ideal S64x128 .f32 from m ((c : Thread nD τ).loc main_arg10)) (ix2 o k) := by
  simp only [V, hostOps0, hostOps0_1, hostOps0_2, List.flatten_cons, List.flatten_nil, List.append_nil, List.cons_append, List.nil_append]
  entry_read
  pointwise []

/-- The stacked table over real weights. -/
theorem v_40 (fs : Fin 64 → Fin 8 → ℝ) (fc : Fin 64 → ℝ)
    (hfs : ∀ k g, m ((c : Thread nD τ).loc main_arg3) (ix3 0 k g) = (fs k g : EReal))
    (hfc : ∀ k, m ((c : Thread nD τ).loc main_arg4) (ix2 0 k) = (fc k : EReal)) (s p : ℕ) (hs : s < 4) (hp : p < 13) (l : Fin 128) :
    V m c main_v40 (ix2 (Fin.ofNat 52 (13 * s + p)) l) = (tab (fun g => fs (chOf l) g * fc (chOf l)) (3 - s) p : EReal) := by
  show StableHlo.after (hostOps0 ++ (hostOps0_1 ++ (hostOps0_2 ++ []))) (fun b => m (c, b)) (Proc.devRef .tc main_v40) _ = _
  rw [List.append_nil, after_two, after_two, tail_v40 _ s p hs hp _ (Nat.mod_eq_of_lt (by omega)) l, mid_v31 _ _ _ _ (head_c _)]
  unfold tab
  by_cases h : 1 ≤ p ∧ p ≤ 11
  · rw [dif_pos (show 1 ≤ p ∧ p - 1 < 11 by omega), if_pos h, head_v30]
    refine @Eq.trans EReal _ _ _ ?_ (sum_coe _)
    refine Finset.sum_congr rfl fun g _ => ?_
    have ht := table_coef ⟨p - 1, by omega⟩ g ⟨3 - s, by omega⟩
    rw [word_val _ ht.2, ht.1, lit_12, div_real _ (by norm_num), EReal.coe_mul, EReal.coe_mul]
    exact congrArg _ (congrArg₂ (fun u v : EReal => u * v) (hfs _ _) (hfc _))
  · rw [dif_neg (show ¬(1 ≤ p ∧ p - 1 < 11) by omega), if_neg h]
    rfl
end Entry

end Cert.KernelIdeal.Value
-- ==== Proof.Windows.lean ====
module

public import proofs.«01_k».proof.Proof.Gen.KernelIdeal.Value
public import Idealize.ShloMosaic.Lib.Pipeline.ValueKit
public import proofs.«01_k».proof.Proof.Block
public import Idealize.ShloMosaic.Lib.StableHlo.RunRead

@[expose] public section

set_option maxRecDepth 16384
noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Kan
/-- Window 0's block index at a grid point, the points counted as `4 * batch + row block`. -/
theorem idx_0 : ∀ t : Fin cfg0.N, win0_0.index t = ![t.val / 4, 0, 0] :=
  (by decide +kernel : ∀ t : Fin grid0.N, _)
/-- Window 1's block index at a grid point, the points counted as `4 * batch + row block`. -/
theorem idx_1 : ∀ t : Fin cfg0.N, win0_1.index t = ![t.val / 4, 0, 0] :=
  (by decide +kernel : ∀ t : Fin grid0.N, _)
/-- Window 2's block index at a grid point, the points counted as `4 * batch + row block`. -/
theorem idx_2 : ∀ t : Fin cfg0.N, win0_2.index t = ![t.val / 4, 0, 0] :=
  (by decide +kernel : ∀ t : Fin grid0.N, _)
/-- Window 3's block index at a grid point, the points counted as `4 * batch + row block`. -/
theorem idx_3 : ∀ t : Fin cfg0.N, win0_3.index t = ![t.val / 4, t.val % 4, 0] :=
  (by decide +kernel : ∀ t : Fin grid0.N, _)
/-- Window 4's block index at a grid point, the points counted as `4 * batch + row block`. -/
theorem idx_4 : ∀ t : Fin cfg0.N, win0_4.index t = ![0, 0] :=
  (by decide +kernel : ∀ t : Fin grid0.N, _)
/-- Window 5's block index at a grid point, the points counted as `4 * batch + row block`. -/
theorem idx_5 : ∀ t : Fin cfg0.N, win0_5.index t = ![0, 0] :=
  (by decide +kernel : ∀ t : Fin grid0.N, _)
/-- Window 6's block index at a grid point, the points counted as `4 * batch + row block`. -/
theorem idx_6 : ∀ t : Fin cfg0.N, win0_6.index t = ![0, 0] :=
  (by decide +kernel : ∀ t : Fin grid0.N, _)
/-- Window 7's block index at a grid point, the points counted as `4 * batch + row block`. -/
theorem idx_7 : ∀ t : Fin cfg0.N, win0_7.index t = ![0, 0] :=
  (by decide +kernel : ∀ t : Fin grid0.N, _)
/-- Window 8's block index at a grid point, the points counted as `4 * batch + row block`. -/
theorem idx_8 : ∀ t : Fin cfg0.N, win0_8.index t = ![0, 0, 0] :=
  (by decide +kernel : ∀ t : Fin grid0.N, _)
/-- Window 9's block index at a grid point, the points counted as `4 * batch + row block`. -/
theorem idx_9 : ∀ t : Fin cfg0.N, win0_9.index t = ![0, 0] :=
  (by decide +kernel : ∀ t : Fin grid0.N, _)
/-- Window 10's block index at a grid point, the points counted as `4 * batch + row block`. -/
theorem idx_10 : ∀ t : Fin cfg0.N, win0_10.index t = ![0, 0, 0] :=
  (by decide +kernel : ∀ t : Fin grid0.N, _)

/-- The row-block coordinate of a grid point. -/
theorem coords_1 : ∀ t : Fin cfg0.N, (grid0.coords t 1).val = t.val % 4 :=
  (by decide +kernel : ∀ t : Fin grid0.N, _)

/-- The batch a grid point works on. -/
def batch (t : Fin cfg0.N) : Fin 2 := ⟨t.val / 4, by have h : t.val < 8 := Nat.lt_of_lt_of_eq t.isLt N_0; omega⟩

section Blocks
variable (m : (ℓ : Loc nD τ sig) → Buf (Elt Ideal) ℓ) (c : Dev nD) (t : Fin cfg0.N)

/-- Window 0 is the batch's features. -/
theorem blk_0 (n : Fin 256) (k : Fin 64) : iblk m c 0 t (ix3 0 n k) = V m c main_arg0 (ix3 (batch t) n k) := by
  blk_ext [iblk, idx_0 t, batch]
/-- Window 1 is the batch's block of the array `main_v2` the host part made. -/
theorem blk_1 (n : Fin 256) (k : Fin 128) : iblk m c 1 t (ix3 0 n k) = V m c main_v2 (ix3 (batch t) n k) := by
  blk_ext [iblk, idx_1 t, batch]
/-- Window 2 is the batch's block of the array `main_v5` the host part made. -/
theorem blk_2 (n : Fin 128) (k : Fin 128) : iblk m c 2 t (ix3 0 n k) = V m c main_v5 (ix3 (batch t) n k) := by
  blk_ext [iblk, idx_2 t, batch]
/-- Window 3 is the row block's strip of the batch's adjacency. -/
theorem blk_3 (r : Fin 64) (k : Fin 256) : iblk m c 3 t (ix3 0 r k) = V m c main_arg1 (ix3 (batch t) (rowOf (grid0.coords t) r) k) := by
  blk_ext [iblk, idx_3 t, batch, rowOf, coords_1]
/-- Window 4 is the whole of the array `main_v17` the host part made. -/
theorem blk_4 (k : Fin 128) : iblk m c 4 t (ix2 0 k) = V m c main_v17 (ix2 0 k) := by
  blk_ext [iblk, idx_4 t, batch]
/-- Window 5 is the whole of the array `main_v21` the host part made. -/
theorem blk_5 (k : Fin 128) : iblk m c 5 t (ix2 0 k) = V m c main_v21 (ix2 0 k) := by
  blk_ext [iblk, idx_5 t, batch]
/-- Window 6 is the whole of the array `main_v40` the host part made. -/
theorem blk_6 (q : Fin 52) (k : Fin 128) : iblk m c 6 t (ix2 q k) = V m c main_v40 (ix2 q k) := by
  blk_ext [iblk, idx_6 t, batch]
/-- Window 7 is the whole of the array `main_v49` the host part made. -/
theorem blk_7 (q : Fin 64) (k : Fin 64) : iblk m c 7 t (ix2 q k) = V m c main_v49 (ix2 q k) := by
  blk_ext [iblk, idx_7 t, batch]
/-- Window 8 is the whole of the array `main_v44` the host part made. -/
theorem blk_8 (g : Fin 8) (q : Fin 64) (k : Fin 64) : iblk m c 8 t (ix3 g q k) = V m c main_v44 (ix3 g q k) := by
  blk_ext [iblk, idx_8 t, batch]
/-- Window 9 is the whole of the array `main_v50` the host part made. -/
theorem blk_9 (q : Fin 128) (k : Fin 64) : iblk m c 9 t (ix2 q k) = V m c main_v50 (ix2 q k) := by
  blk_ext [iblk, idx_9 t, batch]
/-- Window 10 is the whole of the array `main_v48` the host part made. -/
theorem blk_10 (g : Fin 8) (q : Fin 128) (k : Fin 64) : iblk m c 10 t (ix3 g q k) = V m c main_v48 (ix3 g q k) := by
  blk_ext [iblk, idx_10 t, batch]
end Blocks

end Cert.KernelIdeal.Value
-- ==== Proof.Array.lean ====
/-
  What the kernel leaves in its result array: the network's output, point by point.
-/
module

public import proofs.«01_k».proof.Proof.Gen.KernelIdeal.Value
public import proofs.«01_k».proof.Proof.Host
public import proofs.«01_k».proof.Proof.Windows
public import Idealize.ShloMosaic.Lib.Pipeline.ValueKit

@[expose] public section

set_option maxRecDepth 16384
noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Kan

section Array
variable (m : (ℓ : Loc nD τ sig) → Buf (Elt Ideal) ℓ) (c : Dev nD) (N : Net)

/-- The kernel's argument arrays hold the network's numbers. -/
def Holds : Prop :=
  N.Of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

variable {m c N} (hN : Holds m c N)
include hN

/-- The features of window 0. -/
theorem in_0 (t : Fin cfg0.N) (n : Fin 256) (k : Fin 64) : iblk m c 0 t (ix3 0 n k) = (N.x (batch t) n k : EReal) :=
  (blk_0 m c t n k).trans ((congrFun (V_main_arg0 m c) _).trans (hN.x _ _ _))

/-- The messages of a point's batch. -/
theorem msg_coe (t : Fin cfg0.N) (n : Fin 256) (o : Fin 64) :
    msgBlk (iblk m c 0 t) (iblk m c 7 t) (iblk m c 8 t) (ix2 n o) = (N.msg (batch t) n o : EReal) := by
  unfold msgBlk Net.msg
  refine kan_coe _ _ _ _ _ _ (fun k => in_0 hN t n k) (fun k => ?_) (fun g k => ?_)
  · exact (blk_7 m c t k o).trans ((v_49 m c k o).trans (hN.mb o k))
  · refine (blk_8 m c t g k o).trans ((v_44 m c g k o).trans ?_)
    rw [EReal.coe_mul]
    exact congrArg₂ (fun u v : EReal => u * v) (hN.ms o k g) (hN.mc o k)

/-- The energies of a row of a point's block. -/
theorem en_coe (t : Fin cfg0.N) (r : Fin 64) (j : Fin 256) :
    enBlk (grid0.coords t) (iblk m c 1 t) (iblk m c 2 t) (iblk m c 3 t) (iblk m c 4 t) (iblk m c 5 t) (iblk m c 6 t) r j
      = (N.energy (batch t) (rowOf (grid0.coords t) r) j : EReal) := by
  unfold enBlk
  refine energy_coe N (batch t) (rowOf (grid0.coords t) r) _ _ _ _ _ _ (fun j => ?_) (fun l => ?_) (fun j l => ?_) (fun s p hs hp l => ?_)
    (fun l => ?_) (fun l => ?_) j
  · exact (blk_3 m c t r j).trans ((congrFun (V_main_arg1 m c) _).trans (hN.adj _ _ _))
  · exact (blk_1 m c t _ l).trans ((v_2 m c _ _ l).trans (hN.x _ _ _))
  · refine (blk_2 m c t j l).trans ((v_5 m c _ j l).trans ?_)
    by_cases h : l.val < 64
    · rw [if_pos h, if_pos h]; exact hN.x _ _ _
    · rw [if_neg h, if_neg h]; exact hN.x _ _ _
  · exact (blk_6 m c t _ l).trans (v_40 m c N.fs N.fc hN.fs hN.fc s p hs hp l)
  · refine (blk_4 m c t l).trans ((v_17 m c l).trans ?_)
    rw [EReal.coe_mul, show Ideal.ofBits .f32 0x3F000000#32 = ((1 / 2 : ℝ) : EReal) by
      simp [Ideal.ofBits, Ideal.ieee, -EReal.coe_mul]; norm_num]
    exact congrArg (fun u : EReal => u * ((1 / 2 : ℝ) : EReal)) (hN.fb _)
  · exact (blk_5 m c t l).trans (v_21 m c l)

/-- The output block of a point, from the messages of its batch. -/
theorem out_coe (t : Fin cfg0.N) (s : Vec Ideal S256x64 .f32) (hs : ∀ n o, s (ix2 n o) = (N.msg (batch t) n o : EReal)) (r o : Fin 64) :
    blkOut (grid0.coords t) (iblk m c 0 t) (iblk m c 1 t) (iblk m c 2 t) (iblk m c 3 t) (iblk m c 4 t) (iblk m c 5 t) (iblk m c 6 t)
      (iblk m c 9 t) (iblk m c 10 t) s (ix3 0 r o) = (N.out (batch t) (rowOf (grid0.coords t) r) o : EReal) := by
  unfold blkOut Net.out
  refine kan_coe _ _ _ _ _ _ (fun k => ?_) (fun k => ?_) (fun g k => ?_)
  · unfold feat Net.feat
    by_cases h : k.val < 64
    · rw [dif_pos h, dif_pos h]
      exact in_0 hN t _ _
    · rw [dif_neg h, dif_neg h, ← sum_coe]
      refine Finset.sum_congr rfl fun j _ => ?_
      rw [EReal.coe_mul]
      exact congrArg₂ (fun u v : EReal => u * v) (weight_real _ _ (fun j => en_coe hN t r j) j) (hs _ _)
  · exact (blk_9 m c t k o).trans ((v_50 m c k o).trans (hN.ub o k))
  · refine (blk_10 m c t g k o).trans ((v_48 m c g k o).trans ?_)
    rw [EReal.coe_mul]
    exact congrArg₂ (fun u v : EReal => u * v) (hN.us o k g) (hN.uc o k)

/-- The scratch holds the messages of the batch after every point. -/
theorem scratch (n : ℕ) : ∀ (hn : n < cfg0.N) (k : Fin 256) (o : Fin 64),
    (outsAt0 m c n hn).2 (ix2 k o) = (N.msg (batch ⟨n, hn⟩) k o : EReal) := by
  induction n with
  | zero =>
    intro hn k o
    rw [outsAt0_A m c ⟨0, hn⟩ rfl, sout_A]
    exact msg_coe hN ⟨0, hn⟩ k o
  | succ n ih =>
    intro hn k o
    by_cases h0 : (n + 1) % 4 = 0
    · rw [outsAt0_A m c ⟨n + 1, hn⟩ h0, sout_A]
      exact msg_coe hN ⟨n + 1, hn⟩ k o
    · rw [outsAt0_B m c ⟨n + 1, hn⟩ h0]
      refine (ih _ k o).trans ?_
      rw [show batch ⟨n, _⟩ = batch ⟨n + 1, hn⟩ from Fin.ext (show n / 4 = (n + 1) / 4 by omega)]

/-- The output block after every point is the network's output. -/
theorem block (t : Fin cfg0.N) (r o : Fin 64) :
    (outsAt0 m c t.val t.isLt).1 (ix3 0 r o) = (N.out (batch t) (rowOf (grid0.coords t) r) o : EReal) := by
  by_cases h0 : t.val % 4 = 0
  · rw [outsAt0_A m c t h0, out_A]
    exact out_coe hN t _ (fun n o => msg_coe hN t n o) r o
  · rw [outsAt0_B m c t h0, out_B]
    refine out_coe hN t _ (fun n o => ?_) r o
    have hb : batch ⟨t.val - 1, by have := t.isLt; omega⟩ = batch t := Fin.ext (show (t.val - 1) / 4 = t.val / 4 by omega)
    rw [← hb]
    exact scratch hN (t.val - 1) _ n o

/-- The result array is the network's output. -/
theorem array (b : Fin 2) (n : Fin 256) (o : Fin 64) : G11 m c (ix3 b n o) = (N.out b n o : EReal) := by
  have hp : pt11Of (ix3 b n o) = 4 * b.val + n.val / 64 := by
    show 4 * (b.val / 1 - 0) + 1 * (n.val / 64 - 0) + 1 * (o.val / 64 - 0) = _
    omega
  have hlt : pt11Of (ix3 b n o) < cfg0.N := by
    rw [hp]; exact Nat.lt_of_lt_of_eq (show 4 * b.val + n.val / 64 < 8 by omega) N_0.symm
  unfold G11
  rw [dif_pos hlt, ← outsAt0_sweep m c _ hlt]
  have hl : loc11Of (ix3 b n o) = ix3 0 ⟨n.val % 64, by omega⟩ o := by
    funext a
    apply Fin.ext
    match a with
    | ⟨0, _⟩ => show b.val % 1 = 0; omega
    | ⟨1, _⟩ => rfl
    | ⟨2, _⟩ => show o.val % 64 = o.val; omega
  rw [hl, block hN ⟨pt11Of (ix3 b n o), hlt⟩]
  have hb : batch ⟨pt11Of (ix3 b n o), hlt⟩ = b := Fin.ext (show pt11Of (ix3 b n o) / 4 = b.val by rw [hp]; omega)
  have hr : rowOf (grid0.coords ⟨pt11Of (ix3 b n o), hlt⟩) ⟨n.val % 64, by omega⟩ = n := Fin.ext (by
    show 64 * (grid0.coords ⟨pt11Of (ix3 b n o), hlt⟩ 1).val + n.val % 64 = n.val
    rw [coords_1]
    show 64 * (pt11Of (ix3 b n o) % 4) + n.val % 64 = n.val
    rw [hp]; omega)
  rw [hb, hr]
end Array

end Cert.KernelIdeal.Value
-- ==== Proof.Reference.lean ====
/-
  What the reference computes, stage by stage, over real arguments.
-/
module

public import proofs.«01_k».proof.Proof.Gen.ReferenceIdeal.Run
public import proofs.«01_k».proof.Proof.Net
public import Idealize.ShloMosaic.Lib.Pipeline.ValueKit

@[expose] public section

set_option maxRecDepth 16384
noncomputable section

open Idealize.ShloMosaic Idealize.ShloMosaic.TcCoe Idealize.SL.Sem

namespace Cert.ReferenceIdeal.Value

open Cert.ReferenceIdeal Cert.Kan

/-- An indicator of two comparisons, converted to a float. -/
theorem ind_val (p q : Prop) [Decidable p] [Decidable q] :
    FloatOps.uitofp (F := Ideal) FTy.f32 (IntOp.andi (BitVec.ofBool (decide p)) (BitVec.ofBool (decide q))) = ((if p ∧ q then 1 else 0 : ℝ) : EReal) := by
  by_cases hp : p <;> by_cases hq : q <;> simp only [hp, hq, decide_true, decide_false, and_self, and_true, and_false, if_true, if_false]
  · show ((((IntOp.andi (BitVec.ofBool true) (BitVec.ofBool true)).toNat : ℝ)) : EReal) = _
    simp [IntOp.andi]
  · show ((((IntOp.andi (BitVec.ofBool true) (BitVec.ofBool false)).toNat : ℝ)) : EReal) = _
    simp [IntOp.andi]
  · show ((((IntOp.andi (BitVec.ofBool false) (BitVec.ofBool true)).toNat : ℝ)) : EReal) = _
    simp [IntOp.andi]
  · show ((((IntOp.andi (BitVec.ofBool false) (BitVec.ofBool false)).toNat : ℝ)) : EReal) = _
    simp [IntOp.andi]

/-- The basis function of degree zero, as the reference computes it. -/
theorem basis_zero (t : ℕ) (x : ℝ) :
    FloatOps.uitofp (F := Ideal) FTy.f32 (IntOp.andi (BitVec.ofBool (decide ((knot t : EReal) ≤ (x : EReal))))
      (BitVec.ofBool (decide ((x : EReal) < (knot (t + 1) : EReal))))) = (B 0 t x : EReal) := by
  rw [ind_val]
  unfold B
  simp only [EReal.coe_le_coe_iff, EReal.coe_lt_coe_iff]

/-- The reference's grid points are the knots. -/
theorem grid_val (t : ℕ) (ht : t < 12) :
    Ideal.div ((Ideal.ofBits .f32 0xC0400000#32 + FloatOps.sitofp (F := Ideal) FTy.f32 (BitVec.ofNat 32 t)) * Ideal.ofBits .f32 0x40000000#32)
      (Ideal.ofBits .f32 0x40A00000#32) - 1 = (knot t : EReal) := by
  have h3 : Ideal.ofBits .f32 0xC0400000#32 = ((-3 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; try norm_num
  have h5 : Ideal.ofBits .f32 0x40A00000#32 = ((5 : ℝ) : EReal) := by
    simp [Ideal.ofBits, Ideal.ieee, -EReal.coe_mul]; norm_num
  have h1 : (1 : EReal) = ((1 : ℝ) : EReal) := rfl
  have hs : FloatOps.sitofp (F := Ideal) FTy.f32 (BitVec.ofNat 32 t) = ((t : ℝ) : EReal) := by
    show ((((BitVec.ofNat 32 t).toInt : ℝ)) : EReal) = _
    have : (BitVec.ofNat 32 t).toInt = t := by
      have hn : (BitVec.ofNat 32 t).toNat = t := by
        rw [BitVec.toNat_ofNat]; omega
      rw [BitVec.toInt_eq_toNat_cond, hn, if_pos (by omega)]
    rw [this]; rfl
  rw [h3, h2, h5, h1, hs, ← EReal.coe_add, ← EReal.coe_mul, div_real _ (by norm_num), ← EReal.coe_sub]
  congr 1
  unfold knot
  ring

/-- One step of the recursion, with the offsets written as the reference writes them. -/
theorem step_val (k t p q : ℕ) (hp : p = k + 1 + t) (hq : q = k + 2 + t) (x : ℝ) :
    Ideal.div ((x : EReal) - (knot t : EReal)) ((knot p : EReal) - (knot t : EReal)) * (B k t x : EReal)
      + Ideal.div ((knot q : EReal) - (x : EReal)) ((knot q : EReal) - (knot (1 + t) : EReal)) * (B k (1 + t) x : EReal)
      = (B (k + 1) t x : EReal) := by
  have h := rb_step k t x
  rw [show p = t + k + 1 by omega, show q = t + k + 2 by omega, show 1 + t = t + 1 by omega]
  exact h

/-- A whole layer, with the spline part summed over pieces first. -/
theorem layer_val {D : ℕ} (v wb sc : Fin D → ℝ) (ws : Fin D → Fin 8 → ℝ) :
    (∑ c, (v c : EReal) * Ideal.div 1 (1 + Ideal.exp (-(v c : EReal))) * (wb c : EReal))
      + ∑ g : Fin 8, ∑ c, (B 3 g.val (v c) : EReal) * ((ws c g : EReal) * (sc c : EReal))
      = (layer v wb (fun c g => ws c g * sc c) : EReal) := by
  rw [Finset.sum_comm, ← layer_coe]
  refine congrArg₂ (· + ·) (Finset.sum_congr rfl fun c _ => ?_)
    (Finset.sum_congr rfl fun c _ => Finset.sum_congr rfl fun g _ => ?_)
  · rw [← rsilu_coe]; rfl
  · rw [EReal.coe_mul]

/-- The largest of finitely many reals, started from minus infinity, is a real. -/
theorem fold_real {ι : Type} (s : Finset ι) (hs : s.Nonempty) (f : ι → EReal)
    (hf : ∀ i, ∃ r : ℝ, f i = (r : EReal)) : ∃ M : ℝ, Finset.fold max (⊥ : EReal) f s = (M : EReal) := by
  induction hs using Finset.Nonempty.cons_induction with
  | singleton a =>
    obtain ⟨r, hr⟩ := hf a
    exact ⟨r, by simp [hr]⟩
  | cons a s ha hs ih =>
    obtain ⟨r, hr⟩ := hf a
    obtain ⟨M, hM⟩ := ih
    exact ⟨max r M, by rw [Finset.fold_cons, hr, hM, EReal.coe_strictMono.monotone.map_max]⟩

section Stages

variable (V0 : Valuation τ sig (Elt Ideal)) (N : Net)

/-- The host values the reference reads are the net's. -/
def Reads : Prop :=
  N.Of (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10))

variable {V0 N} (hN : Reads V0 N)
include hN

/-- The differences of the nodes. -/
theorem s_4 (b : Fin 2) (i j : Fin 256) (c : Fin 64) :
    res_main_v4 V0 (ix4 b i j c) = ((N.x b i c - N.x b j c : ℝ) : EReal) := by
  unfold res_main_v4
  pointwise []
  exact (congrArg₂ (fun u v : EReal => u - v) (hN.x b i c) (hN.x b j c)).trans (EReal.coe_sub _ _).symm

omit hN in
/-- The grid of the energy layer. -/
theorem s_14 (c : Fin 64) (t : Fin 12) : res_main_v14 V0 (ix2 c t) = (knot t.val : EReal) := by
  unfold res_main_v14
  pointwise []
  exact grid_val t.val t.isLt

/-- The differences, with a last axis of one. -/
theorem s_15 (b : Fin 2) (i j : Fin 256) (c : Fin 64) :
    res_main_v15 V0 (ix5 b i j c 0) = ((N.x b i c - N.x b j c : ℝ) : EReal) := by
  unfold res_main_v15
  pointwise []
  exact s_4 hN b i j c

/-- The energy layer's basis of degree zero. -/
theorem s_27 (b : Fin 2) (i j : Fin 256) (c : Fin 64) (t : Fin 11) :
    res_main_v27 V0 (ix5 b i j c t) = (B 0 t.val (N.x b i c - N.x b j c) : EReal) := by
  unfold res_main_v27
  pointwise []
  simp only [s_14, s_15 hN]
  rw [Nat.add_comm 1]
  exact basis_zero _ _

/-- The energy layer's basis of degree one. -/
theorem s_54 (b : Fin 2) (i j : Fin 256) (c : Fin 64) (t : Fin 10) :
    res_main_v54 V0 (ix5 b i j c t) = (B 1 t.val (N.x b i c - N.x b j c) : EReal) := by
  unfold res_main_v54
  pointwise []
  simp only [s_14, s_15 hN, s_27 hN]
  exact step_val 0 _ _ _ rfl rfl _

/-- The energy layer's basis of degree two. -/
theorem s_81 (b : Fin 2) (i j : Fin 256) (c : Fin 64) (t : Fin 9) :
    res_main_v81 V0 (ix5 b i j c t) = (B 2 t.val (N.x b i c - N.x b j c) : EReal) := by
  unfold res_main_v81
  pointwise []
  simp only [s_14, s_15 hN, s_54 hN]
  exact step_val 1 _ _ _ rfl rfl _

/-- The masked energies. -/
theorem s_120 (b : Fin 2) (i j : Fin 256) : res_main_v120 V0 (ix3 b i j) = (N.energy b i j : EReal) := by
  unfold res_main_v120
  pointwise []
  have h0 : Ideal.ofBits .f32 0xCE6E6B28#32 = ((-1000000000 : ℝ) : EReal) := by
    simp [Ideal.ofBits, Ideal.ieee, -EReal.coe_mul]; norm_num
  have hs : ∀ (u : BitVec 32) (p q : EReal), Scalar.select (IntOp.cmpi .eq u 0#32) p q = if u = 0#32 then p else q := by
    intro u p q
    by_cases hu : u = 0#32
    · rw [if_pos hu, hu]; rfl
    · have hb : (u == 0#32) = false := beq_eq_false_iff_ne.mpr hu
      rw [if_neg hu]; simp [Scalar.select, IntOp.cmpi, hb]
  refine (hs _ _ _).trans ?_
  rw [hN.adj b i j, h0]
  unfold Net.energy
  split
  · rfl
  · simp only [s_4 hN, s_14, s_15 hN, s_81 hN]
    rw [← layer_val]
    refine congrArg₂ (fun u v : EReal => u + v) (Finset.sum_congr rfl fun c _ => ?_)
      (Finset.sum_congr rfl fun g _ => Finset.sum_congr rfl fun c _ => ?_)
    · exact congrArg (fun u : EReal => _ * u) (hN.fb c)
    · exact congrArg₂ (fun u v : EReal => u * v) (step_val 2 _ _ _ rfl rfl _)
        (congrArg₂ (fun u v : EReal => u * v) (hN.fs c g) (hN.fc c))

/-- The exponentials, against some real shift of the row. -/
theorem s_127 (b : Fin 2) (i : Fin 256) :
    ∃ M : ℝ, ∀ j, res_main_v127 V0 (ix3 b i j) = Ideal.exp ((N.energy b i j : EReal) - (M : EReal)) := by
  have hb : Ideal.ofBits .f32 0xFF800000#32 = ⊥ := by simp [Ideal.ofBits, Ideal.ieee]
  have hr : S2x256x256.Reduces [2] S2x256 := by decide
  obtain ⟨M, hM⟩ := fold_real ({k | Gen.reducesTo_S2x256x256_S2x256_d2.drop k = ix2 b i} : Finset _)
    ⟨hr.lift (ix2 b i) (0 : Fin 256), by
      rw [Finset.mem_filter]
      exact ⟨Finset.mem_univ _, (congrFun (Shape.ReducesTo.drop_eq_drop _ hr) _).trans (Shape.Reduces.drop_lift hr _ _)⟩⟩
    (res_main_v120 V0) (by
      intro k
      idx_vars k
      exact ⟨_, s_120 hN k0 k1 k2⟩)
  refine ⟨M, fun j => ?_⟩
  unfold res_main_v127
  pointwise []
  rw [s_120 hN, hb]
  refine congrArg (fun u : EReal => Ideal.exp ((N.energy b i j : EReal) - u)) ?_
  refine (max_eq_right bot_le).trans ?_
  exact hM

omit hN in
/-- The grid of the message layer. -/
theorem s_141 (c : Fin 64) (t : Fin 12) : res_main_v141 V0 (ix2 c t) = (knot t.val : EReal) := by
  unfold res_main_v141
  pointwise []
  exact grid_val t.val t.isLt

/-- The nodes, with a last axis of one. -/
theorem s_142 (b : Fin 2) (i : Fin 256) (c : Fin 64) :
    res_main_v142 V0 (ix4 b i c 0) = (N.x b i c : EReal) := by
  unfold res_main_v142
  pointwise []
  exact hN.x b i c

/-- The message layer's basis of degree zero. -/
theorem s_154 (b : Fin 2) (i : Fin 256) (c : Fin 64) (t : Fin 11) :
    res_main_v154 V0 (ix4 b i c t) = (B 0 t.val (N.x b i c) : EReal) := by
  unfold res_main_v154
  pointwise []
  simp only [s_141, s_142 hN]
  rw [Nat.add_comm 1]
  exact basis_zero _ _

/-- The message layer's basis of degree one. -/
theorem s_181 (b : Fin 2) (i : Fin 256) (c : Fin 64) (t : Fin 10) :
    res_main_v181 V0 (ix4 b i c t) = (B 1 t.val (N.x b i c) : EReal) := by
  unfold res_main_v181
  pointwise []
  simp only [s_141, s_142 hN, s_154 hN]
  exact step_val 0 _ _ _ rfl rfl _

/-- The message layer's basis of degree two. -/
theorem s_208 (b : Fin 2) (i : Fin 256) (c : Fin 64) (t : Fin 9) :
    res_main_v208 V0 (ix4 b i c t) = (B 2 t.val (N.x b i c) : EReal) := by
  unfold res_main_v208
  pointwise []
  simp only [s_141, s_142 hN, s_181 hN]
  exact step_val 1 _ _ _ rfl rfl _

/-- The features: a node beside its messages, gathered by the softmax. -/
theorem s_245 (b : Fin 2) (i : Fin 256) (k : Fin 128) : res_main_v245 V0 (ix3 b i k) = (N.feat b i k : EReal) := by
  unfold res_main_v245
  pointwise []
  unfold Net.feat
  split
  · exact hN.x b i _
  · obtain ⟨M, hM⟩ := s_127 hN b i
    simp only [hM, s_141, s_142 hN, s_208 hN]
    refine @Eq.trans EReal _ _ _ (Finset.sum_congr rfl fun j _ => ?_) (sum_coe _)
    refine (congrArg (fun u : EReal => u * _) (weight_coe _ _ _)).trans ?_
    refine Eq.trans ?_ (EReal.coe_mul _ _).symm
    refine congrArg (fun u : EReal => _ * u) ?_
    unfold Net.msg
    rw [← layer_val]
    refine congrArg₂ (fun u v : EReal => u + v) (Finset.sum_congr rfl fun c _ => ?_)
      (Finset.sum_congr rfl fun g _ => Finset.sum_congr rfl fun c _ => ?_)
    · exact congrArg₂ (fun u v : EReal => u * Ideal.div 1 (1 + Ideal.exp (-u)) * v) (hN.x b j c) (hN.mb _ c)
    · exact congrArg₂ (fun u v : EReal => u * v) (step_val 2 _ _ _ rfl rfl _)
        (congrArg₂ (fun u v : EReal => u * v) (hN.ms _ c g) (hN.mc _ c))

omit hN in
/-- The grid of the update layer. -/
theorem s_255 (c : Fin 128) (t : Fin 12) : res_main_v255 V0 (ix2 c t) = (knot t.val : EReal) := by
  unfold res_main_v255
  pointwise []
  exact grid_val t.val t.isLt

/-- The features, with a last axis of one. -/
theorem s_256 (b : Fin 2) (i : Fin 256) (c : Fin 128) :
    res_main_v256 V0 (ix4 b i c 0) = (N.feat b i c : EReal) := by
  unfold res_main_v256
  pointwise []
  exact s_245 hN b i c

/-- The update layer's basis of degree zero. -/
theorem s_268 (b : Fin 2) (i : Fin 256) (c : Fin 128) (t : Fin 11) :
    res_main_v268 V0 (ix4 b i c t) = (B 0 t.val (N.feat b i c) : EReal) := by
  unfold res_main_v268
  pointwise []
  simp only [s_255, s_256 hN]
  rw [Nat.add_comm 1]
  exact basis_zero _ _

/-- The update layer's basis of degree one. -/
theorem s_295 (b : Fin 2) (i : Fin 256) (c : Fin 128) (t : Fin 10) :
    res_main_v295 V0 (ix4 b i c t) = (B 1 t.val (N.feat b i c) : EReal) := by
  unfold res_main_v295
  pointwise []
  simp only [s_255, s_256 hN, s_268 hN]
  exact step_val 0 _ _ _ rfl rfl _

/-- The update layer's basis of degree two. -/
theorem s_322 (b : Fin 2) (i : Fin 256) (c : Fin 128) (t : Fin 9) :
    res_main_v322 V0 (ix4 b i c t) = (B 2 t.val (N.feat b i c) : EReal) := by
  unfold res_main_v322
  pointwise []
  simp only [s_255, s_256 hN, s_295 hN]
  exact step_val 1 _ _ _ rfl rfl _

/-- The reference's result is the net's output. -/
theorem result (b : Fin 2) (i : Fin 256) (o : Fin 64) :
    val7 V0 (Proc.devRef .tc main_v357) (ix3 b i o) = (N.out b i o : EReal) := by
  rw [val7_main_v357]
  pointwise []
  simp only [s_245 hN, s_255, s_256 hN, s_322 hN]
  unfold Net.out
  rw [← layer_val]
  refine congrArg₂ (fun u v : EReal => u + v) (Finset.sum_congr rfl fun c _ => ?_)
    (Finset.sum_congr rfl fun g _ => Finset.sum_congr rfl fun c _ => ?_)
  · exact congrArg (fun u : EReal => _ * u) (hN.ub o c)
  · exact congrArg₂ (fun u v : EReal => u * v) (step_val 2 _ _ _ rfl rfl _)
      (congrArg₂ (fun u v : EReal => u * v) (hN.us o c g) (hN.uc o c))

end Stages

end Cert.ReferenceIdeal.Value
-- ==== Proof.Finite.lean ====
/-
  The precondition read back: finite arguments are the numbers of a network.
-/
module

public import proofs.«01_k».proof.Pre_finite
public import proofs.«01_k».proof.Proof.Gen.Pre_finite
public import proofs.«01_k».proof.Proof.Net
public import Idealize.ShloMosaic.Lib.ReduceAll
public import Idealize.ShloMosaic.Lib.Pipeline.ValueKit

@[expose] public section

set_option maxRecDepth 16384
noncomputable section

open Idealize.ShloMosaic Idealize.ShloMosaic.TcCoe Idealize.SL.Sem

namespace Cert.Kan

open Cert.Pre_finite

/-- The shape of rank zero has one index. -/
theorem one_index : Subsingleton S_.Idx := ⟨fun a b => funext fun k => k.elim0⟩

/-- An array whose magnitudes all lie below infinity holds reals. -/
theorem all_real {s : Shape} {axes : List (Fin s.rank)} (a : FVec Ideal s .f32) (bc : S_.BroadcastsInDim s (![] : Fin 0 → Fin s.rank))
    (init : IVec S_ 1) (hr : s.ReducesTo axes S_) (hu : 0 < S_.numel) (j : S_.Idx)
    (e : Host.reduce IntOp.andi (cmpf .olt (Host.absf a) (broadcastInDim s ![] bc (constant (F := Ideal) S_ .f32 0x7F800000#32)))
      init hr hu j = 1#1) (i : s.Idx) : a i = ((EReal.toReal (a i) : ℝ) : EReal) := by
  haveI := one_index
  have h : Ideal.cmp .olt (max (a i : EReal) (-(a i : EReal))) (Ideal.ofBits .f32 0x7F800000#32) = 1#1 :=
    Host.reduce_andi_all _ init hr hu j e i
  have ht : Ideal.ofBits .f32 0x7F800000#32 = ⊤ := by simp [Ideal.ofBits, Ideal.ieee]
  rw [ht] at h
  have hlt : max (a i : EReal) (-(a i : EReal)) < ⊤ := by
    by_contra hc
    simp [Ideal.cmp, hc] at h
  refine (EReal.coe_toReal ?_ ?_).symm
  · intro hx
    exact absurd (lt_of_le_of_lt (le_max_left _ _) hlt) (by rw [hx]; exact lt_irrefl _)
  · intro hx
    exact absurd (lt_of_le_of_lt (le_max_right _ _) hlt) (by rw [hx]; simp)

/-- The network whose numbers the arrays hold. -/
def netOf (a0 : FVec Ideal S2x256x64 .f32) (a1 : IVec S2x256x256 32) (a2 : FVec Ideal S1x64 .f32)
    (a3 : FVec Ideal S1x64x8 .f32) (a4 : FVec Ideal S1x64 .f32) (a5 : FVec Ideal S64x64 .f32)
    (a6 : FVec Ideal S64x64x8 .f32) (a7 : FVec Ideal S64x64 .f32) (a8 : FVec Ideal S64x128 .f32)
    (a9 : FVec Ideal S64x128x8 .f32) (a10 : FVec Ideal S64x128 .f32) : Net where
  x b n k := EReal.toReal (a0 (ix3 b n k))
  adj b i j := a1 (ix3 b i j)
  fb k := EReal.toReal (a2 (ix2 0 k))
  fs k g := EReal.toReal (a3 (ix3 0 k g))
  fc k := EReal.toReal (a4 (ix2 0 k))
  mb o k := EReal.toReal (a5 (ix2 o k))
  ms o k g := EReal.toReal (a6 (ix3 o k g))
  mc o k := EReal.toReal (a7 (ix2 o k))
  ub o k := EReal.toReal (a8 (ix2 o k))
  us o k g := EReal.toReal (a9 (ix3 o k g))
  uc o k := EReal.toReal (a10 (ix2 o k))

/-- Arrays that meet the precondition hold that network's numbers. -/
theorem netOf_holds (a0 : FVec Ideal S2x256x64 .f32) (a1 : IVec S2x256x256 32) (a2 : FVec Ideal S1x64 .f32)
    (a3 : FVec Ideal S1x64x8 .f32) (a4 : FVec Ideal S1x64 .f32) (a5 : FVec Ideal S64x64 .f32)
    (a6 : FVec Ideal S64x64x8 .f32) (a7 : FVec Ideal S64x64 .f32) (a8 : FVec Ideal S64x128 .f32)
    (a9 : FVec Ideal S64x128x8 .f32) (a10 : FVec Ideal S64x128 .f32)
    (h : Cert.Pre_finite.fn (F := Ideal) a0 a1 a2 a3 a4 a5 a6 a7 a8 a9 a10 = fun _ => 1#1) :
    (netOf a0 a1 a2 a3 a4 a5 a6 a7 a8 a9 a10).Of a0 a1 a2 a3 a4 a5 a6 a7 a8 a9 a10 := by
  have e := congrFun h (fun k : Fin 0 => k.elim0)
  dsimp only [Cert.Pre_finite.fn, Cert.Pre_finite.fn_part1] at e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨_, h0⟩ := IntOp.andi_eq_one.1 e
  exact {
    x := fun _ _ _ => all_real a0 _ _ _ _ _ h0 _
    adj := fun _ _ _ => rfl
    fb := fun _ => all_real a2 _ _ _ _ _ h2 _
    fs := fun _ _ => all_real a3 _ _ _ _ _ h3 _
    fc := fun _ => all_real a4 _ _ _ _ _ h4 _
    mb := fun _ _ => all_real a5 _ _ _ _ _ h5 _
    ms := fun _ _ _ => all_real a6 _ _ _ _ _ h6 _
    mc := fun _ _ => all_real a7 _ _ _ _ _ h7 _
    ub := fun _ _ => all_real a8 _ _ _ _ _ h8 _
    us := fun _ _ _ => all_real a9 _ _ _ _ _ h9 _
    uc := fun _ _ => all_real a10 _ _ _ _ _ h10 _ }

end Cert.Kan

end
-- ==== Proof.Claims.lean ====
/-
  The claims, one by one.
-/
module

public import proofs.«01_k».proof.Defs
public import proofs.«01_k».proof.Proof.Gen.Kernel.Frame
public import proofs.«01_k».proof.Proof.Gen.KernelIdeal.Frame
public import proofs.«01_k».proof.Proof.Array
public import proofs.«01_k».proof.Proof.Reference
public import proofs.«01_k».proof.Proof.Finite
public import Idealize.ShloMosaic.Lib.Quiescent
public import Idealize.ShloMosaic.Lib.Bf16Pair

@[expose] public section

set_option maxRecDepth 16384
noncomputable section

open Idealize.ShloMosaic Idealize.ShloMosaic.TcCoe Idealize.SL.Sem Idealize.ShloMosaic.StableHlo

namespace Cert.Proof.Claims

open Cert.Kan

/-- The kernel runs, keeps its arguments and ends with every counter at zero. -/
theorem frame_p : Cert.quiescent_Kernel := fun m ρ _ => Cert.Kernel.Gen.frame m ρ

/-- So does the ideal kernel. -/
theorem frame_pi : Cert.quiescent_KernelIdeal := fun m ρ _ => Cert.KernelIdeal.Gen.frame m ρ

/-- So does the ideal kernel on finite arguments. -/
theorem frame_pi_finite : Cert.quiescent_KernelIdeal_pre_finite := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference on finite arguments. -/
theorem frame_ri_finite : Cert.quiescent_ReferenceIdeal_pre_finite := fun m ρ _ => frame_ri m ρ trivial

/-- Every rewrite that leads from the kernel to the ideal kernel is one of the rules'. -/
theorem preserves : Cert.preserves_Kernel_KernelIdeal :=
  ⟨IdealRules.named_const.statement Cert.KernelIdeal.κ "neg_log2e" .f32 0xBFB8AA3B#32 ((-((Real.log 2)⁻¹) : ℝ) : EReal) rfl,
    IdealRules.named_const.statement Cert.KernelIdeal.κ "knot0" .f32 0xC00CCCCD#32 ((-11 / 5 : ℝ) : EReal) rfl,
    IdealRules.named_const.statement Cert.KernelIdeal.κ "knot1" .f32 0xBFE66666#32 ((-9 / 5 : ℝ) : EReal) rfl,
    IdealRules.named_const.statement Cert.KernelIdeal.κ "knot2" .f32 0xBFB33333#32 ((-7 / 5 : ℝ) : EReal) rfl,
    IdealRules.named_const.statement Cert.KernelIdeal.κ "knot4" .f32 0xBF19999A#32 ((-3 / 5 : ℝ) : EReal) rfl,
    IdealRules.named_const.statement Cert.KernelIdeal.κ "knot5" .f32 0xBE4CCCCD#32 ((-1 / 5 : ℝ) : EReal) rfl,
    IdealRules.named_const.statement Cert.KernelIdeal.κ "knot6" .f32 0x3E4CCCCD#32 ((1 / 5 : ℝ) : EReal) rfl,
    IdealRules.named_const.statement Cert.KernelIdeal.κ "knot7" .f32 0x3F19999A#32 ((3 / 5 : ℝ) : EReal) rfl,
    IdealRules.named_const.statement Cert.KernelIdeal.κ "knot9" .f32 0x3FB33333#32 ((7 / 5 : ℝ) : EReal) rfl,
    IdealRules.named_const.statement Cert.KernelIdeal.κ "knot10" .f32 0x3FE66666#32 ((9 / 5 : ℝ) : EReal) rfl,
    IdealRules.named_const.statement Cert.KernelIdeal.κ "knot11" .f32 0x400CCCCD#32 ((11 / 5 : ℝ) : EReal) rfl,
    IdealRules.named_const.statement Cert.KernelIdeal.κ "five_sixths" .f32 0x3F555555#32 ((5 / 6 : ℝ) : EReal) rfl,
    IdealRules.bf16_pair.packStatement Cert.KernelIdeal.S64x128x128,
    IdealRules.bf16_pair.statement Cert.KernelIdeal.S64x256x128 Cert.KernelIdeal.S64x128x128⟩

/-- Arrays equal to arrays that hold a network's numbers hold them too. -/
theorem of_congr {N : Net} {a0 a1 a2 a3 a4 a5 a6 a7 a8 a9 a10 b0 b1 b2 b3 b4 b5 b6 b7 b8 b9 b10} (h : N.Of a0 a1 a2 a3 a4 a5 a6 a7 a8 a9 a10) (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) :
    N.Of b0 b1 b2 b3 b4 b5 b6 b7 b8 b9 b10 := by
  subst e0 e1 e2 e3 e4 e5 e6 e7 e8 e9 e10
  exact h

/-- Where the kernel's and the reference's arguments hold one network's numbers, their result arrays are equal. -/
theorem one_result (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal)) (N : Net)
    (hk : Cert.KernelIdeal.Value.Holds m c N) (hr : Cert.ReferenceIdeal.Value.Reads V0 N) :
    Cert.ReferenceIdeal.Value.val7 V0 (Proc.devRef .tc Cert.ReferenceIdeal.main_v357) = Cert.KernelIdeal.Value.G11 m c := by
  refine funext fun (i : Cert.KernelIdeal.S2x256x64.Idx) => ?_
  idx_vars i
  exact (Cert.ReferenceIdeal.Value.result hr _ _ _).trans (Cert.KernelIdeal.Value.array hk _ _ _).symm

/-- On finite arguments the ideal kernel's result array is the reference's: both hold the network's output. -/
theorem algebraic : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Value.val7_main_v357 (launchContents m' c)).symm.trans ?_
  obtain ⟨e0, e1, e2, e3, e4, e5, e6, e7, e8, e9, e10⟩ := hagree c
  have hk : Cert.KernelIdeal.Value.Holds m c _ := netOf_holds _ _ _ _ _ _ _ _ _ _ _ (hpre c)
  exact one_result m c (launchContents m' c) _ hk (of_congr hk e0 e1 e2 e3 e4 e5 e6 e7 e8 e9 e10)

end Cert.Proof.Claims

end
-- ==== Proof.lean ====
/- The proof of the claims: each is a theorem of Proof/Claims.lean, behind the witnesses of the programs' stated facts. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim the test file states. -/
theorem claim : Cert.Claim :=
  ⟨Cert.Kernel.Gen.facts, Cert.KernelIdeal.Gen.facts, Cert.ReferenceIdeal.Gen.facts, Cert.Pre_finite.Gen.facts,
    Claims.frame_p, Claims.frame_pi, Claims.frame_pi_finite, Claims.frame_ri, Claims.frame_ri_finite, Claims.preserves, Claims.algebraic⟩

end Cert.Proof

end
